-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S256x32x4096 : Shape := ⟨3, ![256, 32, 4096]⟩
abbrev S8x8x32x4096 : Shape := ⟨4, ![8, 8, 32, 4096]⟩
abbrev S_ : Shape := ⟨0, ![]⟩
abbrev S8 : Shape := ⟨1, ![8]⟩
abbrev S32x4096 : Shape := ⟨2, ![32, 4096]⟩
abbrev S1x4096 : Shape := ⟨2, ![1, 4096]⟩
abbrev S1x1x32x4096 : Shape := ⟨4, ![1, 1, 32, 4096]⟩
abbrev S1 : Shape := ⟨1, ![1]⟩
abbrev S8x32x4096 : Shape := ⟨3, ![8, 32, 4096]⟩
abbrev S1x8x32x4096 : Shape := ⟨4, ![1, 8, 32, 4096]⟩

abbrev nBuf : Space → Nat
  | .hbm => 2
  | .vmem => 2
  | .smem => 0
  | _ => 0

abbrev bufTy : (tb : Table) → Fin (tcTables nBuf tb) → BufTy
  | .hbm, ⟨0, _⟩ => ⟨S256x4096, .f32⟩
  | .hbm, ⟨1, _⟩ => ⟨S256x32x4096, .f32⟩
  | .local _ .vmem, ⟨0, _⟩ => ⟨S256x4096, .f32⟩
  | .local _ .vmem, ⟨1, _⟩ => ⟨S8x8x32x4096, .f32⟩
  | _, _ => ⟨S256x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩
abbrev cc0_scratch1 : Ref sig .tc := ⟨.vmem, 1, rfl⟩

abbrev nD : Nat := 1
abbrev τ : Topo := Topo.v7x

variable {F : FTy → Type} [FloatOps F]

abbrev grid0 : Pipeline.Grid := .none

def k0_off1 (c0_i32_12 : BitVec 32) (c0_i32_11 : BitVec 32) : Fin 2 → Nat :=
  let v46 : BitVec 32 := Scalar.addi c0_i32_12 c0_i32_11
  let v47 : Index := Scalar.indexCast v46
  let c0 : Index := 0#32
  ![v47.toNat, 0]
@[reducible] def k0_t1_loop : Scf.Loop 32 :=
  let c1_i32_511 : BitVec 32 := 1#32
  let c3_i32_512 : BitVec 32 := 3#32
  let v1046 : BitVec 32 := Scalar.addi c1_i32_511 c3_i32_512
  let c1_i32_513 : BitVec 32 := 1#32
  ⟨c1_i32_511, v1046, c1_i32_513⟩
def k0_off2 (k0_t1 : Fin k0_t1_loop.trips) (c0_i32_572 : BitVec 32) : Fin 3 → Nat :=
  let c1_i32_511 : BitVec 32 := 1#32
  let c1_i32_513 : BitVec 32 := 1#32
  let arg6 : BitVec 32 := Scf.iv c1_i32_511 c1_i32_513 k0_t1
  let c8_i32_571 : BitVec 32 := 8#32
  let v1087 : BitVec 32 := Scalar.muli arg6 c8_i32_571
  let v1088 : BitVec 32 := Scalar.addi v1087 c0_i32_572
  let c8_i32_573 : BitVec 32 := 8#32
  let v1089 : BitVec 32 := Scalar.subi v1088 c8_i32_573
  let c8_i32_574 : BitVec 32 := 8#32
  let v1090 : BitVec 32 := Scalar.muli v1089 c8_i32_574
  let c0_i32_577 : BitVec 32 := 0#32
  let c0_i32_578 : BitVec 32 := 0#32
  ![v1090.toNat, 0, 0]
def k0_off3 (k0_t1 : Fin k0_t1_loop.trips) (c0_i32_572 : BitVec 32) (c0_i32_582 : BitVec 32) : Fin 2 → Nat :=
  let c1_i32_511 : BitVec 32 := 1#32
  let c1_i32_513 : BitVec 32 := 1#32
  let arg6 : BitVec 32 := Scf.iv c1_i32_511 c1_i32_513 k0_t1
  let c8_i32_571 : BitVec 32 := 8#32
  let v1087 : BitVec 32 := Scalar.muli arg6 c8_i32_571
  let v1088 : BitVec 32 := Scalar.addi v1087 c0_i32_572
  let c8_i32_583 : BitVec 32 := 8#32
  let v1096 : BitVec 32 := Scalar.muli v1088 c8_i32_583
  let v1097 : BitVec 32 := Scalar.addi v1096 c0_i32_582
  let v1098 : Index := Scalar.indexCast v1097
  let c0_584 : Index := 0#32
  ![v1098.toNat, 0]
def k0_off4 (k0_t1 : Fin k0_t1_loop.trips) (c0_i32_572 : BitVec 32) : Fin 3 → Nat :=
  let c1_i32_511 : BitVec 32 := 1#32
  let c1_i32_513 : BitVec 32 := 1#32
  let arg6 : BitVec 32 := Scf.iv c1_i32_511 c1_i32_513 k0_t1
  let c8_i32_571 : BitVec 32 := 8#32
  let v1087 : BitVec 32 := Scalar.muli arg6 c8_i32_571
  let v1088 : BitVec 32 := Scalar.addi v1087 c0_i32_572
  let c8_i32_639 : BitVec 32 := 8#32
  let v1224 : BitVec 32 := Scalar.muli v1088 c8_i32_639
  let c0_i32_642 : BitVec 32 := 0#32
  let c0_i32_643 : BitVec 32 := 0#32
  ![v1224.toNat, 0, 0]
-- ==== ReferenceIdeal.lean ====
abbrev S256x4096 : Shape := ⟨2, ![256, 4096]⟩
abbrev S_ : Shape := ⟨0, ![]⟩
abbrev S32 : Shape := ⟨1, ![32]⟩
abbrev S1x32x1 : Shape := ⟨3, ![1, 32, 1]⟩
abbrev S256x1x4096 : Shape := ⟨3, ![256, 1, 4096]⟩
abbrev S256x32x4096 : Shape := ⟨3, ![256, 32, 4096]⟩

abbrev nBuf : Space → Nat
  | .hbm => 66
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S256x4096, .f32⟩
  | .hbm, ⟨5, _⟩ => ⟨S256x4096, .f32⟩
  | .hbm, ⟨6, _⟩ => ⟨S_, .f32⟩
  | .hbm, ⟨7, _⟩ => ⟨S256x4096, .f32⟩
  | .hbm, ⟨8, _⟩ => ⟨S256x4096, .f32⟩
  | .hbm, ⟨9, _⟩ => ⟨S_, .f32⟩
  | .hbm, ⟨10, _⟩ => ⟨S256x4096, .f32⟩
  | .hbm, ⟨11, _⟩ => ⟨S256x4096, .f32⟩
  | .hbm, ⟨12, _⟩ => ⟨S256x4096, .i32⟩
  | .hbm, ⟨13, _⟩ => ⟨S32, .i32⟩
  | .hbm, ⟨14, _⟩ => ⟨S_, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i1⟩
  | .hbm, ⟨22, _⟩ => ⟨S32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i1⟩
  | .hbm, ⟨27, _⟩ => ⟨S32, .i1⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S_, .i32⟩
  | .hbm, ⟨41, _⟩ => ⟨S32, .i32⟩
  | .hbm, ⟨42, _⟩ => ⟨S32, .i1⟩
  | .hbm, ⟨43, _⟩ => ⟨S_, .i32⟩
  | .hbm, ⟨44, _⟩ => ⟨S32, .i32⟩
  | .hbm, ⟨45, _⟩ => ⟨S32, .i1⟩
  | .hbm, ⟨46, _⟩ => ⟨S_, .i32⟩
  | .hbm, ⟨47, _⟩ => ⟨S_, .i1⟩
  | .hbm, ⟨48, _⟩ => ⟨S32, .i1⟩
  | .hbm, ⟨49, _⟩ => ⟨S32, .i1⟩
  | .hbm, ⟨50, _⟩ => ⟨S32, .i1⟩
  | .hbm, ⟨51, _⟩ => ⟨S32, .i32⟩
  | .hbm, ⟨52, _⟩ => ⟨S32, .i32⟩
  | .hbm, ⟨53, _⟩ => ⟨S32, .i32⟩
  | .hbm, ⟨54, _⟩ => ⟨S_, .i32⟩
  | .hbm, ⟨55, _⟩ => ⟨S32, .i32⟩
  | .hbm, ⟨56, _⟩ => ⟨S32, .i1⟩
  | .hbm, ⟨57, _⟩ => ⟨S1x32x1, .i32⟩
  | .hbm, ⟨58, _⟩ => ⟨S256x1x4096, .i32⟩
  | .hbm, ⟨59, _⟩ => ⟨S256x32x4096, .i32⟩
  | .hbm, ⟨60, _⟩ => ⟨S256x32x4096, .i32⟩
  | .hbm, ⟨61, _⟩ => ⟨S256x32x4096, .i1⟩
  | .hbm, ⟨62, _⟩ => ⟨S1x32x1, .i1⟩
  | .hbm, ⟨63, _⟩ => ⟨S256x32x4096, .i1⟩
  | .hbm, ⟨64, _⟩ => ⟨S256x32x4096, .i1⟩
  | .hbm, ⟨65, _⟩ => ⟨S256x32x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_c : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_0 : Ref sig .tc := ⟨.hbm, 28, rfl⟩
abbrev main_call1_v12 : Ref sig .tc := ⟨.hbm, 29, rfl⟩
abbrev main_call1_v13 : Ref sig .tc := ⟨.hbm, 30, rfl⟩
abbrev main_v5 : Ref sig .tc := ⟨.hbm, 31, rfl⟩
abbrev main_c_2 : Ref sig .tc := ⟨.hbm, 32, rfl⟩
abbrev main_call2_v0 : Ref sig .tc := ⟨.hbm, 33, rfl⟩
abbrev main_call2_c : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_c_1 : Ref sig .tc := ⟨.hbm, 40, rfl⟩
abbrev main_call2_v5 : Ref sig .tc := ⟨.hbm, 41, rfl⟩
abbrev main_call2_v6 : Ref sig .tc := ⟨.hbm, 42, rfl⟩
abbrev main_call2_c_2 : Ref sig .tc := ⟨.hbm, 43, rfl⟩
abbrev main_call2_v7 : Ref sig .tc := ⟨.hbm, 44, rfl⟩
abbrev main_call2_v8 : Ref sig .tc := ⟨.hbm, 45, rfl⟩
abbrev main_call2_c_3 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_v6 : Ref sig .tc := ⟨.hbm, 53, rfl⟩
abbrev main_c_3 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩

abbrev nD : Nat := 1
abbrev τ : Topo := Topo.v7x

variable {F : FTy → Type} [FloatOps F]
-- ==== Proof.Ring.Names.lean ====
/-
  The names the write-behind ring is spoken of by: the 32 blocks of the output (8 rows each), the 8 slots of the
  staging buffer, the 8 cells, and the equations that read the body's own slices as these names.
-/
module

public import proofs.«01_k».proof.Defs
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's, beside the counters the copies ride on -/

/-- The pipeline library's algebra beside the counters of the copies in flight. -/
abbrev UU (nD : Nat) (τ : Topo) : Type := UR sig nD τ × Counters
local notation "𝕄" => MT nD τ sig Unit (Elt F) ℕ (UU nD τ) ℕ
/-- The pipeline library's algebra within the whole. -/
abbrev EP : Emb (UR sig nD τ) (MT nD τ sig Unit (Elt F) ℕ (UU nD τ) ℕ) := embL
/-- No loop needs a variant. -/
abbrev 𝒱₀ : Variants := Variants.none

/-! ## Block `b` of the output, slot `s` of the staging buffer, slot `s`'s cell -/

/-- The input. -/
abbrev xM : Memref sig .tc .hbm S256x4096 .f32 := Memref.whole main_arg0
/-- The output. -/
abbrev outM : Memref sig .tc .hbm S256x32x4096 .f32 := Memref.whole main_v0
/-- The input's copy. -/
abbrev xvM : Memref sig .tc .vmem S256x4096 .f32 := Memref.whole cc0_scratch0
/-- The staging buffer. -/
abbrev bufM : Memref sig .tc .vmem S8x8x32x4096 .f32 := Memref.whole cc0_scratch1

/-- Where block `b` begins in the output. -/
abbrev blkOff (b : Fin 32) : Fin 3 → Nat := ![8 * b.val, 0, 0]
/-- Block `b` lies within the output. -/
theorem blkOff_inb (b : Fin 32) : ∀ a, blkOff b a + S8x32x4096.size a ≤ S256x32x4096.size a := by
  have := b.isLt; intro a; fin_cases a
  · show 8 * b.val + 8 ≤ 256; omega
  · show 0 + 32 ≤ 32; omega
  · show 0 + 4096 ≤ 4096; omega
/-- Where slot `s` begins in the staging buffer. -/
abbrev slotOff (s : Fin 8) : Fin 4 → Nat := ![s.val, 0, 0, 0]
/-- Slot `s` lies within the staging buffer. -/
theorem slotOff_inb (s : Fin 8) : ∀ a, slotOff s a + S1x8x32x4096.size a ≤ S8x8x32x4096.size a := by
  have := s.isLt; intro a; fin_cases a
  · show s.val + 1 ≤ 8; omega
  · show 0 + 8 ≤ 8; omega
  · show 0 + 32 ≤ 32; omega
  · show 0 + 4096 ≤ 4096; omega
/-- Where slot `s`'s cell lies among the eight. -/
abbrev semOff (s : Fin 8) : Fin 1 → Nat := ![s.val]
/-- Slot `s`'s cell is one of the eight. -/
theorem semOff_inb (s : Fin 8) : ∀ a, semOff s a + S1.size a ≤ S8.size a := by
  have := s.isLt; intro a; fin_cases a; show s.val + 1 ≤ 8; omega

/-- Block `b` of the output: rows `8 b` to `8 b + 7`. -/
def blk (b : Fin 32) : Memref sig .tc .hbm S8x32x4096 .f32 :=
  outM.slice (Rect.unit (s := S256x32x4096) (blkOff b) S8x32x4096.size (blkOff_inb b)) (fun _ => rfl)
/-- Slot `s` of the staging buffer. -/
def rslot (s : Fin 8) : Memref sig .tc .vmem S8x32x4096 .f32 :=
  (bufM.slice (Rect.unit (s := S8x8x32x4096) (slotOff s) S1x8x32x4096.size (slotOff_inb s)) (fun _ => rfl)).squeeze S8x32x4096 squeezes_S1x8x32x4096_S8x32x4096
/-- Slot `s`'s cell. -/
def csm (s : Fin 8) : DmaSems sig S_ := (cc0_scratch3.slice (Rect.unit (s := S8) (semOff s) S1.size (semOff_inb s))).squeeze S_ squeezes_S1_S_

/-- The offset is written in closed form. -/
instance (s : Fin 8) : ClosedOff (slotOff s) := ⟨slotOff s, rfl⟩
/-- The offset is written in closed form. -/
instance (b : Fin 32) : ClosedOff (blkOff b) := ⟨blkOff b, rfl⟩

/-- The block trip `k` of the loop waits in slot `s`. -/
def wb (k : ℕ) (s : Fin 8) : Fin 32 := Ring.bk 32 (8 * k + s.val)
/-- Slot `s` of round `k` is block `8 k + s`. -/
theorem wb_val {k : ℕ} (s : Fin 8) (h : k < 4) : (wb k s).val = 8 * k + s.val := by
  unfold wb; exact Ring.bk_val (by omega)

/-- The loop has three trips. -/
theorem trips_lt (k : Fin k0_t1_loop.trips) : k.val < 3 := Nat.lt_of_lt_of_eq k.isLt (by decide)

/-! ### The body's slices are these names -/

/-- A slice of the cells at slot `s`'s place is slot `s`'s cell. -/
theorem csm_congr {off : Fin 1 → Nat} {s : Fin 8} (e : off = semOff s) (hh) :
    (cc0_scratch3.slice (Rect.unit (s := S8) off S1.size hh)).squeeze S_ squeezes_S1_S_ = csm s :=
  congrArg (fun A : DmaSems sig S1 => A.squeeze S_ squeezes_S1_S_) (SemArray.slice_unit_congr _ e _ _)
/-- A slice of the staging buffer at slot `s`'s place is slot `s`. -/
theorem rslot_congr {off : Fin 4 → Nat} {s : Fin 8} (e : off = slotOff s) (hh hs) :
    (bufM.slice (Rect.unit (s := S8x8x32x4096) off S1x8x32x4096.size hh) hs).squeeze S8x32x4096 squeezes_S1x8x32x4096_S8x32x4096 = rslot s :=
  congrArg (fun M : Memref sig .tc .vmem S1x8x32x4096 .f32 => M.squeeze S8x32x4096 squeezes_S1x8x32x4096_S8x32x4096) (Memref.slice_unit_congr _ e _ _ _ _)
/-- A slice of the output at block `b`'s place is block `b`. -/
theorem blk_congr {off : Fin 3 → Nat} {b : Fin 32} (e : off = blkOff b) (hh hs) :
    outM.slice (Rect.unit (s := S256x32x4096) off S8x32x4096.size hh) hs = blk b :=
  Memref.slice_unit_congr _ e _ _ _ (fun _ => rfl)

section Canon

/-- The program's slice for slot 0's cell. -/
@[sl_canon] theorem sem0 (hh) : (cc0_scratch3.slice (Rect.unit (s := S8) ![0] S1.size hh)).squeeze S_ squeezes_S1_S_ = csm 0 := csm_congr (by decide) _
/-- The program's slice for slot 1's cell. -/
@[sl_canon] theorem sem1 (hh) : (cc0_scratch3.slice (Rect.unit (s := S8) ![1] S1.size hh)).squeeze S_ squeezes_S1_S_ = csm 1 := csm_congr (by decide) _
/-- The program's slice for slot 2's cell. -/
@[sl_canon] theorem sem2 (hh) : (cc0_scratch3.slice (Rect.unit (s := S8) ![2] S1.size hh)).squeeze S_ squeezes_S1_S_ = csm 2 := csm_congr (by decide) _
/-- The program's slice for slot 3's cell. -/
@[sl_canon] theorem sem3 (hh) : (cc0_scratch3.slice (Rect.unit (s := S8) ![3] S1.size hh)).squeeze S_ squeezes_S1_S_ = csm 3 := csm_congr (by decide) _
/-- The program's slice for slot 4's cell. -/
@[sl_canon] theorem sem4 (hh) : (cc0_scratch3.slice (Rect.unit (s := S8) ![4] S1.size hh)).squeeze S_ squeezes_S1_S_ = csm 4 := csm_congr (by decide) _
/-- The program's slice for slot 5's cell. -/
@[sl_canon] theorem sem5 (hh) : (cc0_scratch3.slice (Rect.unit (s := S8) ![5] S1.size hh)).squeeze S_ squeezes_S1_S_ = csm 5 := csm_congr (by decide) _
/-- The program's slice for slot 6's cell. -/
@[sl_canon] theorem sem6 (hh) : (cc0_scratch3.slice (Rect.unit (s := S8) ![6] S1.size hh)).squeeze S_ squeezes_S1_S_ = csm 6 := csm_congr (by decide) _
/-- The program's slice for slot 7's cell. -/
@[sl_canon] theorem sem7 (hh) : (cc0_scratch3.slice (Rect.unit (s := S8) ![7] S1.size hh)).squeeze S_ squeezes_S1_S_ = csm 7 := csm_congr (by decide) _

/-- The program's slice for slot 0. -/
@[sl_canon] theorem slot0 (hh hs) : (bufM.slice (Rect.unit (s := S8x8x32x4096) ![0, 0, 0, 0] S1x8x32x4096.size hh) hs).squeeze S8x32x4096 squeezes_S1x8x32x4096_S8x32x4096 = rslot 0 := rslot_congr (by decide) _ _
/-- The program's slice for slot 1. -/
@[sl_canon] theorem slot1 (hh hs) : (bufM.slice (Rect.unit (s := S8x8x32x4096) ![1, 0, 0, 0] S1x8x32x4096.size hh) hs).squeeze S8x32x4096 squeezes_S1x8x32x4096_S8x32x4096 = rslot 1 := rslot_congr (by decide) _ _
/-- The program's slice for slot 2. -/
@[sl_canon] theorem slot2 (hh hs) : (bufM.slice (Rect.unit (s := S8x8x32x4096) ![2, 0, 0, 0] S1x8x32x4096.size hh) hs).squeeze S8x32x4096 squeezes_S1x8x32x4096_S8x32x4096 = rslot 2 := rslot_congr (by decide) _ _
/-- The program's slice for slot 3. -/
@[sl_canon] theorem slot3 (hh hs) : (bufM.slice (Rect.unit (s := S8x8x32x4096) ![3, 0, 0, 0] S1x8x32x4096.size hh) hs).squeeze S8x32x4096 squeezes_S1x8x32x4096_S8x32x4096 = rslot 3 := rslot_congr (by decide) _ _
/-- The program's slice for slot 4. -/
@[sl_canon] theorem slot4 (hh hs) : (bufM.slice (Rect.unit (s := S8x8x32x4096) ![4, 0, 0, 0] S1x8x32x4096.size hh) hs).squeeze S8x32x4096 squeezes_S1x8x32x4096_S8x32x4096 = rslot 4 := rslot_congr (by decide) _ _
/-- The program's slice for slot 5. -/
@[sl_canon] theorem slot5 (hh hs) : (bufM.slice (Rect.unit (s := S8x8x32x4096) ![5, 0, 0, 0] S1x8x32x4096.size hh) hs).squeeze S8x32x4096 squeezes_S1x8x32x4096_S8x32x4096 = rslot 5 := rslot_congr (by decide) _ _
/-- The program's slice for slot 6. -/
@[sl_canon] theorem slot6 (hh hs) : (bufM.slice (Rect.unit (s := S8x8x32x4096) ![6, 0, 0, 0] S1x8x32x4096.size hh) hs).squeeze S8x32x4096 squeezes_S1x8x32x4096_S8x32x4096 = rslot 6 := rslot_congr (by decide) _ _
/-- The program's slice for slot 7. -/
@[sl_canon] theorem slot7 (hh hs) : (bufM.slice (Rect.unit (s := S8x8x32x4096) ![7, 0, 0, 0] S1x8x32x4096.size hh) hs).squeeze S8x32x4096 squeezes_S1x8x32x4096_S8x32x4096 = rslot 7 := rslot_congr (by decide) _ _

/-- The prologue's blocks: 0 to 7. -/
theorem blkP_congr {off : Fin 3 → Nat} {k : ℕ} {s : Fin 8} (hk : k < 4) (e : off = ![64 * k + 8 * s.val, 0, 0]) (hh hs) :
    outM.slice (Rect.unit (s := S256x32x4096) off S8x32x4096.size hh) hs = blk (wb k s) :=
  blk_congr (by rw [e]; unfold blkOff; rw [wb_val s hk]; congr 1; omega) _ _
/-- The prologue's slice for block 0. -/
@[sl_canon] theorem blk0 (hh hs) : outM.slice (Rect.unit (s := S256x32x4096) ![0, 0, 0] S8x32x4096.size hh) hs = blk (wb 0 0) := blkP_congr (by decide) (by decide) _ _
/-- The prologue's slice for block 1. -/
@[sl_canon] theorem blk1 (hh hs) : outM.slice (Rect.unit (s := S256x32x4096) ![8, 0, 0] S8x32x4096.size hh) hs = blk (wb 0 1) := blkP_congr (by decide) (by decide) _ _
/-- The prologue's slice for block 2. -/
@[sl_canon] theorem blk2 (hh hs) : outM.slice (Rect.unit (s := S256x32x4096) ![16, 0, 0] S8x32x4096.size hh) hs = blk (wb 0 2) := blkP_congr (by decide) (by decide) _ _
/-- The prologue's slice for block 3. -/
@[sl_canon] theorem blk3 (hh hs) : outM.slice (Rect.unit (s := S256x32x4096) ![24, 0, 0] S8x32x4096.size hh) hs = blk (wb 0 3) := blkP_congr (by decide) (by decide) _ _
/-- The prologue's slice for block 4. -/
@[sl_canon] theorem blk4 (hh hs) : outM.slice (Rect.unit (s := S256x32x4096) ![32, 0, 0] S8x32x4096.size hh) hs = blk (wb 0 4) := blkP_congr (by decide) (by decide) _ _
/-- The prologue's slice for block 5. -/
@[sl_canon] theorem blk5 (hh hs) : outM.slice (Rect.unit (s := S256x32x4096) ![40, 0, 0] S8x32x4096.size hh) hs = blk (wb 0 5) := blkP_congr (by decide) (by decide) _ _
/-- The prologue's slice for block 6. -/
@[sl_canon] theorem blk6 (hh hs) : outM.slice (Rect.unit (s := S256x32x4096) ![48, 0, 0] S8x32x4096.size hh) hs = blk (wb 0 6) := blkP_congr (by decide) (by decide) _ _
/-- The prologue's slice for block 7. -/
@[sl_canon] theorem blk7 (hh hs) : outM.slice (Rect.unit (s := S256x32x4096) ![56, 0, 0] S8x32x4096.size hh) hs = blk (wb 0 7) := blkP_congr (by decide) (by decide) _ _
/-- The epilogue's blocks: 24 to 31. -/
@[sl_canon] theorem blk24 (hh hs) : outM.slice (Rect.unit (s := S256x32x4096) ![192, 0, 0] S8x32x4096.size hh) hs = blk (wb 3 0) := blkP_congr (by decide) (by decide) _ _
@[sl_canon] theorem blk25 (hh hs) : outM.slice (Rect.unit (s := S256x32x4096) ![200, 0, 0] S8x32x4096.size hh) hs = blk (wb 3 1) := blkP_congr (by decide) (by decide) _ _
@[sl_canon] theorem blk26 (hh hs) : outM.slice (Rect.unit (s := S256x32x4096) ![208, 0, 0] S8x32x4096.size hh) hs = blk (wb 3 2) := blkP_congr (by decide) (by decide) _ _
@[sl_canon] theorem blk27 (hh hs) : outM.slice (Rect.unit (s := S256x32x4096) ![216, 0, 0] S8x32x4096.size hh) hs = blk (wb 3 3) := blkP_congr (by decide) (by decide) _ _
@[sl_canon] theorem blk28 (hh hs) : outM.slice (Rect.unit (s := S256x32x4096) ![224, 0, 0] S8x32x4096.size hh) hs = blk (wb 3 4) := blkP_congr (by decide) (by decide) _ _
@[sl_canon] theorem blk29 (hh hs) : outM.slice (Rect.unit (s := S256x32x4096) ![232, 0, 0] S8x32x4096.size hh) hs = blk (wb 3 5) := blkP_congr (by decide) (by decide) _ _
@[sl_canon] theorem blk30 (hh hs) : outM.slice (Rect.unit (s := S256x32x4096) ![240, 0, 0] S8x32x4096.size hh) hs = blk (wb 3 6) := blkP_congr (by decide) (by decide) _ _
@[sl_canon] theorem blk31 (hh hs) : outM.slice (Rect.unit (s := S256x32x4096) ![248, 0, 0] S8x32x4096.size hh) hs = blk (wb 3 7) := blkP_congr (by decide) (by decide) _ _

/-- The place the loop copies slot `r` to in trip `k`. -/
theorem off4_eq (k : Fin k0_t1_loop.trips) (r : Fin 8) : k0_off4 k (BitVec.ofNat 32 r.val) = ![64 * (k.val + 1) + 8 * r.val, 0, 0] := by
  revert k r; decide +kernel
/-- A trip is below four. -/
theorem k3 (k : Fin k0_t1_loop.trips) : k.val < 4 := by have := trips_lt k; omega
/-- A trip's successor is below four. -/
theorem k4 (k : Fin k0_t1_loop.trips) : k.val + 1 < 4 := by have := trips_lt k; omega

/-- Trip `k` waits the blocks of round `k`. -/
@[sl_canon] theorem blkW0 (k : Fin k0_t1_loop.trips) (hh hs) : outM.slice (Rect.unit (s := S256x32x4096) (k0_off2 k 0#32) S8x32x4096.size hh) hs = blk (wb k.val 0) := blkP_congr (k3 k) (k0_off2_eq k 0) _ _
@[sl_canon] theorem blkW1 (k : Fin k0_t1_loop.trips) (hh hs) : outM.slice (Rect.unit (s := S256x32x4096) (k0_off2 k 1#32) S8x32x4096.size hh) hs = blk (wb k.val 1) := blkP_congr (k3 k) (k0_off2_eq k 1) _ _
@[sl_canon] theorem blkW2 (k : Fin k0_t1_loop.trips) (hh hs) : outM.slice (Rect.unit (s := S256x32x4096) (k0_off2 k 2#32) S8x32x4096.size hh) hs = blk (wb k.val 2) := blkP_congr (k3 k) (k0_off2_eq k 2) _ _
@[sl_canon] theorem blkW3 (k : Fin k0_t1_loop.trips) (hh hs) : outM.slice (Rect.unit (s := S256x32x4096) (k0_off2 k 3#32) S8x32x4096.size hh) hs = blk (wb k.val 3) := blkP_congr (k3 k) (k0_off2_eq k 3) _ _
@[sl_canon] theorem blkW4 (k : Fin k0_t1_loop.trips) (hh hs) : outM.slice (Rect.unit (s := S256x32x4096) (k0_off2 k 4#32) S8x32x4096.size hh) hs = blk (wb k.val 4) := blkP_congr (k3 k) (k0_off2_eq k 4) _ _
@[sl_canon] theorem blkW5 (k : Fin k0_t1_loop.trips) (hh hs) : outM.slice (Rect.unit (s := S256x32x4096) (k0_off2 k 5#32) S8x32x4096.size hh) hs = blk (wb k.val 5) := blkP_congr (k3 k) (k0_off2_eq k 5) _ _
@[sl_canon] theorem blkW6 (k : Fin k0_t1_loop.trips) (hh hs) : outM.slice (Rect.unit (s := S256x32x4096) (k0_off2 k 6#32) S8x32x4096.size hh) hs = blk (wb k.val 6) := blkP_congr (k3 k) (k0_off2_eq k 6) _ _
@[sl_canon] theorem blkW7 (k : Fin k0_t1_loop.trips) (hh hs) : outM.slice (Rect.unit (s := S256x32x4096) (k0_off2 k 7#32) S8x32x4096.size hh) hs = blk (wb k.val 7) := blkP_congr (k3 k) (k0_off2_eq k 7) _ _
/-- Trip `k` issues the blocks of round `k + 1`. -/
@[sl_canon] theorem blkI0 (k : Fin k0_t1_loop.trips) (hh hs) : outM.slice (Rect.unit (s := S256x32x4096) (k0_off4 k 0#32) S8x32x4096.size hh) hs = blk (wb (k.val + 1) 0) := blkP_congr (k4 k) (off4_eq k 0) _ _
@[sl_canon] theorem blkI1 (k : Fin k0_t1_loop.trips) (hh hs) : outM.slice (Rect.unit (s := S256x32x4096) (k0_off4 k 1#32) S8x32x4096.size hh) hs = blk (wb (k.val + 1) 1) := blkP_congr (k4 k) (off4_eq k 1) _ _
@[sl_canon] theorem blkI2 (k : Fin k0_t1_loop.trips) (hh hs) : outM.slice (Rect.unit (s := S256x32x4096) (k0_off4 k 2#32) S8x32x4096.size hh) hs = blk (wb (k.val + 1) 2) := blkP_congr (k4 k) (off4_eq k 2) _ _
@[sl_canon] theorem blkI3 (k : Fin k0_t1_loop.trips) (hh hs) : outM.slice (Rect.unit (s := S256x32x4096) (k0_off4 k 3#32) S8x32x4096.size hh) hs = blk (wb (k.val + 1) 3) := blkP_congr (k4 k) (off4_eq k 3) _ _
@[sl_canon] theorem blkI4 (k : Fin k0_t1_loop.trips) (hh hs) : outM.slice (Rect.unit (s := S256x32x4096) (k0_off4 k 4#32) S8x32x4096.size hh) hs = blk (wb (k.val + 1) 4) := blkP_congr (k4 k) (off4_eq k 4) _ _
@[sl_canon] theorem blkI5 (k : Fin k0_t1_loop.trips) (hh hs) : outM.slice (Rect.unit (s := S256x32x4096) (k0_off4 k 5#32) S8x32x4096.size hh) hs = blk (wb (k.val + 1) 5) := blkP_congr (k4 k) (off4_eq k 5) _ _
@[sl_canon] theorem blkI6 (k : Fin k0_t1_loop.trips) (hh hs) : outM.slice (Rect.unit (s := S256x32x4096) (k0_off4 k 6#32) S8x32x4096.size hh) hs = blk (wb (k.val + 1) 6) := blkP_congr (k4 k) (off4_eq k 6) _ _
@[sl_canon] theorem blkI7 (k : Fin k0_t1_loop.trips) (hh hs) : outM.slice (Rect.unit (s := S256x32x4096) (k0_off4 k 7#32) S8x32x4096.size hh) hs = blk (wb (k.val + 1) 7) := blkP_congr (k4 k) (off4_eq k 7) _ _

end Canon

/-! ## The pieces: a block held, a slot held, a cell at zero, a slot in flight to a block -/

section Pieces
variable (c : Dev nD)

/-- Slot `s`'s cell at zero. -/
abbrev cellP (s : Fin 8) : sProp 𝕄 := semVal ((c : Thread nD τ), SemLoc.dma (csm s).sem) 0
/-- Slot `s` held at `f`. -/
abbrev slotP (s : Fin 8) (f : Buf (Elt F) (bufM.view.loc (c : Thread nD τ))) : sProp 𝕄 :=
  (rslot s).view.loc (c : Thread nD τ) ↦[(rslot s).view.set]{fullShare} f
/-- Block `b` held at `g`. -/
abbrev blkP (b : Fin 32) (g : Buf (Elt F) (outM.view.loc (c : Thread nD τ))) : sProp 𝕄 :=
  (blk b).view.loc (c : Thread nD τ) ↦[(blk b).view.set]{fullShare} g
/-- What one block's copy moves on its cell. -/
abbrev NN : ℕ := 131072
/-- Slot `s` at `f` in flight to block `b`, which it leaves at `g`. -/
abbrev flightP (s : Fin 8) (b : Fin 32) (g : Buf (Elt F) (outM.view.loc (c : Thread nD τ))) (f : Buf (Elt F) (bufM.view.loc (c : Thread nD τ))) : sProp 𝕄 :=
  Transfers.Flight countersEmb (c : Thread nD τ) (SemLoc.dma (csm s).sem) () NN iprop(blkP c b g ∗ slotP c s f)

end Pieces

end Cert.Proof.KernelIdeal
end
-- ==== Proof.Ring.Landed.lean ====
/-
  What one block's copy leaves: the eight rows stored into a slot, copied out whole, are the eight rows of the
  output's specification on the block.
-/
module

public import proofs.«01_k».proof.Proof.Ring.Names
public import Idealize.ShloMosaic.Lib.ValueLayout

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ (UU nD τ) ℕ

/-! ## The output's specification -/

/-- Row `n` lies within the input. -/
theorem rowR_inb (n : Fin 256) : ∀ a, (![n.val, 0] : Fin 2 → Nat) a + S1x4096.size a ≤ S256x4096.size a := by
  have := n.isLt; intro a; fin_cases a
  · show n.val + 1 ≤ 256; omega
  · show 0 + 4096 ≤ 4096; omega
/-- Row `n` of the input. -/
def rowR (n : Fin 256) : Rect S256x4096 := Rect.unit (s := S256x4096) ![n.val, 0] S1x4096.size (rowR_inb n)

/-- The 32 time steps of one input row. -/
abbrev payRow (v27 : FVec F S32x4096 .f32) (v45 : IVec S32x4096 1) (xr : Vec F S1x4096 .f32) : FVec F S1x1x32x4096 .f32 := k0_pay162 v27 v45 xr

variable (c : Dev nD)

/-- Row `n` of the input, read off the input's copy. -/
def rowOf (XV : Buf (Elt F) (xvM.view.loc (c : Thread nD τ))) (n : Fin 256) : Vec F S1x4096 .f32 :=
  xvM.view.readAt (Elt F) (rowR n).toLoadRect XV

/-- The output: row `n` holds the 32 time steps of the input's row `n`. -/
def G (v27 : FVec F S32x4096 .f32) (v45 : IVec S32x4096 1) (XV : Buf (Elt F) (xvM.view.loc (c : Thread nD τ))) : Buf (Elt F) (outM.view.loc (c : Thread nD τ)) :=
  fun i : S256x32x4096.Idx => payRow v27 v45 (rowOf c XV (i 0)) (ix4 (0 : Fin 1) (0 : Fin 1) (i 1) (i 2))

/-! ## Eight rows stored into a slot -/

/-- Where row `j` of slot `s` begins in the staging buffer. -/
abbrev cellOff (s j : Fin 8) : Fin 4 → Nat := ![s.val, j.val, 0, 0]
/-- Row `j` of slot `s` lies within the staging buffer. -/
theorem cellOff_inb (s j : Fin 8) : ∀ a, cellOff s j a + S1x1x32x4096.size a ≤ S8x8x32x4096.size a := by
  have := s.isLt; have := j.isLt; intro a; fin_cases a
  · show s.val + 1 ≤ 8; omega
  · show j.val + 1 ≤ 8; omega
  · show 0 + 32 ≤ 32; omega
  · show 0 + 4096 ≤ 4096; omega
/-- Row `j` of slot `s`. -/
abbrev cellR (s j : Fin 8) : Rect S8x8x32x4096 := Rect.unit (s := S8x8x32x4096) (cellOff s j) S1x1x32x4096.size (cellOff_inb s j)

/-- One row stored. -/
abbrev put (s j : Fin 8) (f : Buf (Elt F) (bufM.view.loc (c : Thread nD τ))) (w : FVec F S1x1x32x4096 .f32) : Buf (Elt F) (bufM.view.loc (c : Thread nD τ)) :=
  View.write (Elt F) (bufM.access (cellR s j)) f w Finset.univ
/-- The eight rows of slot `s` stored one after another. -/
def fill (s : Fin 8) (f : Buf (Elt F) (bufM.view.loc (c : Thread nD τ))) (w0 w1 w2 w3 w4 w5 w6 w7 : FVec F S1x1x32x4096 .f32) :
    Buf (Elt F) (bufM.view.loc (c : Thread nD τ)) :=
  put c s 7 (put c s 6 (put c s 5 (put c s 4 (put c s 3 (put c s 2 (put c s 1 (put c s 0 f w0) w1) w2) w3) w4) w5) w6) w7

/-- Element `(t, l)` of row `j` of slot `s`, in the staging buffer. -/
theorem cellR_emb (s j : Fin 8) (a b : Fin 1) (t : Fin 32) (l : Fin 4096) : (cellR s j).emb (ix4 a b t l) = ix4 s j t l := by
  funext d; apply Fin.ext; rw [Rect.emb_apply]
  fin_cases d <;> simp [ix4]

/-- After row `j` of slot `s` is stored, the slot holds it at row `j` and is as it was at the others. -/
theorem put_apply (s j : Fin 8) (f : Buf (Elt F) (bufM.view.loc (c : Thread nD τ))) (w : FVec F S1x1x32x4096 .f32) (j' : Fin 8) (t : Fin 32) (l : Fin 4096) :
    put c s j f w (ix4 s j' t l) = if j' = j then w (ix4 (0 : Fin 1) (0 : Fin 1) t l) else f (ix4 s j' t l) := by
  split
  · next h =>
    subst h
    have h := View.write_emb_of_mem (v := bufM.access (cellR s j')) (Val := Elt F) f w (x := ix4 (0 : Fin 1) (0 : Fin 1) t l) (Finset.mem_univ _)
    have e : (bufM.access (cellR s j')).emb (ix4 (0 : Fin 1) (0 : Fin 1) t l) = ix4 s j' t l := cellR_emb s j' 0 0 t l
    rw [e] at h
    exact h
  · next h =>
    refine View.write_of_not_mem (v := bufM.access (cellR s j)) (Val := Elt F) f w _ ?_
    intro hm
    have hm' : ix4 s j' t l ∈ (cellR s j).set := by
      have := hm
      rw [show (bufM.access (cellR s j)).setOn Finset.univ = (bufM.view.slice (cellR s j)).set from rfl, View.set_slice] at this
      obtain ⟨y, hy, e⟩ := Finset.mem_map.mp this
      have e' : y = ix4 s j' t l := e
      exact e' ▸ hy
    have h1 := (Rect.mem_set_unit.mp hm') 1
    have h2 : j.val ≤ j'.val ∧ j'.val < j.val + 1 := h1
    exact h (Fin.ext (by omega))

/-- Element `(j, t, l)` of slot `s`, in the staging buffer. -/
theorem rslot_emb (s : Fin 8) (j : Fin 8) (t : Fin 32) (l : Fin 4096) : (rslot s).view.emb (ix3 j t l) = ix4 s j t l := by
  show (Rect.unit (s := S8x8x32x4096) (slotOff s) S1x8x32x4096.size (slotOff_inb s)).emb (Shape.reshapeEquiv _ (ix3 j t l)) = _
  rw [reshapeEquiv_ix3_1abc]
  funext d; apply Fin.ext; rw [Rect.emb_apply]
  fin_cases d <;> simp [ix4]

/-- A slot's read is the buffer's contents there. -/
theorem read_slot (s : Fin 8) (S : Buf (Elt F) (bufM.view.loc (c : Thread nD τ))) (j : Fin 8) (t : Fin 32) (l : Fin 4096) :
    (rslot s).view.read (Elt F) S (ix3 j t l) = S (ix4 s j t l) := congrArg S (rslot_emb s j t l)

/-- Reading the slot back: row `j` is the `j`-th row stored. -/
theorem read_fill (s : Fin 8) (f : Buf (Elt F) (bufM.view.loc (c : Thread nD τ))) (w0 w1 w2 w3 w4 w5 w6 w7 : FVec F S1x1x32x4096 .f32) (j : Fin 8) (t : Fin 32) (l : Fin 4096) :
    (rslot s).view.read (Elt F) (fill c s f w0 w1 w2 w3 w4 w5 w6 w7) (ix3 j t l)
      = (![w0, w1, w2, w3, w4, w5, w6, w7] j : FVec F S1x1x32x4096 .f32) (ix4 (0 : Fin 1) (0 : Fin 1) t l) := by
  rw [read_slot]; unfold fill
  simp only [put_apply]
  fin_cases j <;> simp

/-! ## The block a slot's copy leaves -/

/-- Element `(j, t, l)` of block `b`, in the output. -/
theorem blk_emb (b : Fin 32) (j : Fin 8) (t : Fin 32) (l : Fin 4096) :
    (blk b).view.emb (ix3 j t l) = ix3 (⟨8 * b.val + j.val, by omega⟩ : Fin 256) t l := by
  show (Rect.unit (s := S256x32x4096) (blkOff b) S8x32x4096.size (blkOff_inb b)).emb (ix3 j t l) = _
  funext d; apply Fin.ext; rw [Rect.emb_apply]
  fin_cases d <;> simp [ix3]

/-- A view written whole holds, under each index, what was written there. -/
theorem writes_whole_emb {κ : Kind} {sp : Space} {s : Shape} {e : EltTy} {Val : EltTy → Type} (v : View sig κ sp s e) (V : v.ty.Contents Val) (w : s.Idx → Val e) (x : s.Idx) :
    v.writes Val V [⟨Rect.whole s, w⟩] (v.emb x) = _root_.cast (congrArg Val v.elt_eq.symm) (w x) := by
  have e := congrFun (View.read_writes_whole (Val := Val) v V w) x
  rw [View.read_apply] at e
  rw [← e, cast_cast, cast_eq]

/-- A slot whose rows are the block's rows, copied whole, leaves the block at the specification. -/
theorem landed_eq (s : Fin 8) (b : Fin 32) (v27 : FVec F S32x4096 .f32) (v45 : IVec S32x4096 1) (XV : Buf (Elt F) (xvM.view.loc (c : Thread nD τ)))
    (V : Buf (Elt F) (outM.view.loc (c : Thread nD τ))) (S : Buf (Elt F) (bufM.view.loc (c : Thread nD τ)))
    (h : ∀ (j : Fin 8) (t : Fin 32) (l : Fin 4096), (rslot s).view.read (Elt F) S (ix3 j t l)
      = payRow v27 v45 (rowOf c XV (⟨8 * b.val + j.val, by omega⟩ : Fin 256)) (ix4 (0 : Fin 1) (0 : Fin 1) t l)) :
    (blkP c b ((blk b).view.writes (Elt F) V [⟨Rect.whole S8x32x4096, ReadAs.same.apply ((rslot s).view.read (Elt F) S)⟩]) : sProp 𝕄) = blkP c b (G c v27 v45 XV) := by
  refine pointsTo_congr fun i hi => ?_
  obtain ⟨x, -, rfl⟩ := Finset.mem_map.mp hi
  refine (writes_whole_emb (blk b).view V _ x).trans ?_
  have hx : x = ix3 (x 0) (x 1) (x 2) := by funext d; fin_cases d <;> rfl
  rw [hx]
  have e2 := congrArg (G c v27 v45 XV) (blk_emb b (x 0) (x 1) (x 2))
  exact (h (x 0) (x 1) (x 2)).trans e2.symm

/-- Eight rows' time steps stored into a slot, one row at a time. -/
def fillRows (s : Fin 8) (v27 : FVec F S32x4096 .f32) (v45 : IVec S32x4096 1) (r : Fin 8 → Vec F S1x4096 .f32)
    (f : Buf (Elt F) (bufM.view.loc (c : Thread nD τ))) : Buf (Elt F) (bufM.view.loc (c : Thread nD τ)) :=
  fill c s f (payRow v27 v45 (r 0)) (payRow v27 v45 (r 1)) (payRow v27 v45 (r 2)) (payRow v27 v45 (r 3))
    (payRow v27 v45 (r 4)) (payRow v27 v45 (r 5)) (payRow v27 v45 (r 6)) (payRow v27 v45 (r 7))

/-- A copy in flight from a slot that holds a block's eight rows is in flight to the specification. -/
theorem flight_done (s : Fin 8) (b : Fin 32) (v27 : FVec F S32x4096 .f32) (v45 : IVec S32x4096 1) (XV : Buf (Elt F) (xvM.view.loc (c : Thread nD τ)))
    (V : Buf (Elt F) (outM.view.loc (c : Thread nD τ))) (f S : Buf (Elt F) (bufM.view.loc (c : Thread nD τ)))
    (w : Vec F S8x32x4096 .f32) (r : Fin 8 → Vec F S1x4096 .f32) (a : DmaSem sig)
    (ha : a = (csm s).sem)
    (hS : S = fillRows c s v27 v45 r f) (hw : w = ReadAs.same.apply ((rslot s).view.read (Elt F) S))
    (hr : ∀ j : Fin 8, r j = rowOf c XV (⟨8 * b.val + j.val, by omega⟩ : Fin 256)) :
    (Transfers.Flight countersEmb (c : Thread nD τ) (SemLoc.dma a) () NN
      iprop(blkP c b ((blk b).view.writes (Elt F) V [⟨Rect.whole S8x32x4096, w⟩]) ∗ slotP c s S) : sProp 𝕄)
      ⊢ iprop(∃ f, flightP c s b (G c v27 v45 XV) f) := by
  subst hw ha
  rw [landed_eq c s b v27 v45 XV V S (fun j t l => by
    rw [hS, fillRows, read_fill]
    have e : (![payRow v27 v45 (r 0), payRow v27 v45 (r 1), payRow v27 v45 (r 2), payRow v27 v45 (r 3),
        payRow v27 v45 (r 4), payRow v27 v45 (r 5), payRow v27 v45 (r 6), payRow v27 v45 (r 7)] j : FVec F S1x1x32x4096 .f32)
        = payRow v27 v45 (r j) := by fin_cases j <;> rfl
    rw [e, hr j])]
  iintro H; iexists _; iexact H

/-- A row read off the input's copy at an offset equal to row `n`'s is row `n`. -/
theorem rowOf_congr (XV : Buf (Elt F) (xvM.view.loc (c : Thread nD τ))) {off : Fin 2 → Nat} {n : Fin 256} (e : off = ![n.val, 0]) (hh) :
    xvM.view.readAt (Elt F) (Rect.unit (s := S256x4096) off S1x4096.size hh).toLoadRect XV = rowOf c XV n := by
  subst e; rfl

end Cert.Proof.KernelIdeal
end
-- ==== Proof.Ring.Trip.lean ====
/-
  One trip of the ring's loop at a symbolic trip number, and the loop's invariant.
-/
module

public import proofs.«01_k».proof.Proof.Ring.Landed

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)
  (v27 : FVec F S32x4096 .f32) (v45 : IVec S32x4096 1) (c7 v1026 : BitVec 32)

/-- The input's copy held whole at `XV`. -/
abbrev xvP (XV : Buf (Elt F) (xvM.view.loc (c : Thread nD τ))) : sProp 𝕄 := xvM.view.loc (c : Thread nD τ) ↦{fullShare} XV
/-- Trip `k` of the loop. -/
abbrev tripG (k : Fin k0_t1_loop.trips) : Prog (TpuEff nD τ sig (Elt F) Λ₀ .tc) Unit :=
  k0_t1_body (F := F) xM (Memref.isWhole_whole _) outM (Memref.isWhole_whole _) xvM (Memref.isWhole_whole _) bufM (Memref.isWhole_whole _) cc0_scratch2 cc0_scratch3 v27 v45 c7 v1026 k ()

/-- The eight blocks of round `k` held at `g`. -/
abbrev rows8 (k : ℕ) (g : Buf (Elt F) (outM.view.loc (c : Thread nD τ))) : sProp 𝕄 :=
  iprop(blkP c (wb k 0) g ∗ blkP c (wb k 1) g ∗ blkP c (wb k 2) g ∗ blkP c (wb k 3) g
    ∗ blkP c (wb k 4) g ∗ blkP c (wb k 5) g ∗ blkP c (wb k 6) g ∗ blkP c (wb k 7) g)
/-- The eight blocks of round `k` in flight to `g`. -/
abbrev air8 (k : ℕ) (g : Buf (Elt F) (outM.view.loc (c : Thread nD τ))) : sProp 𝕄 :=
  iprop((∃ f, flightP c 0 (wb k 0) g f) ∗ (∃ f, flightP c 1 (wb k 1) g f) ∗ (∃ f, flightP c 2 (wb k 2) g f) ∗ (∃ f, flightP c 3 (wb k 3) g f)
    ∗ (∃ f, flightP c 4 (wb k 4) g f) ∗ (∃ f, flightP c 5 (wb k 5) g f) ∗ (∃ f, flightP c 6 (wb k 6) g f) ∗ (∃ f, flightP c 7 (wb k 7) g f))

/-- The row a trip computes at step `j` of slot `s` is the block's row `j`. -/
theorem row_trip (XV : Buf (Elt F) (xvM.view.loc (c : Thread nD τ))) (k : Fin k0_t1_loop.trips) (s j : Fin 8) (hh) :
    xvM.view.readAt (Elt F) (Rect.unit (s := S256x4096) (k0_off3 k (BitVec.ofNat 32 s.val) (BitVec.ofNat 32 j.val)) S1x4096.size hh).toLoadRect XV
      = rowOf c XV (⟨8 * (wb (k.val + 1) s).val + j.val, by have := (wb (k.val + 1) s).isLt; omega⟩ : Fin 256) := by
  refine rowOf_congr c XV ?_ hh
  rw [k0_off3_eq]
  have e : 64 * k.val + 8 * s.val + j.val + 64 = 8 * (wb (k.val + 1) s).val + j.val := by rw [wb_val s (k4 k)]; omega
  rw [e]

/-- The rows a trip reads for slot `s`. -/
def rowsT (XV : Buf (Elt F) (xvM.view.loc (c : Thread nD τ))) (k : Fin k0_t1_loop.trips) (s : Fin 8) (j : Fin 8) : Vec F S1x4096 .f32 :=
  xvM.view.readAt (Elt F) (Rect.unit (s := S256x4096) (k0_off3 k (BitVec.ofNat 32 s.val) (BitVec.ofNat 32 j.val)) S1x4096.size (k0_off3_inb k s j)).toLoadRect XV

set_option maxHeartbeats 4000000 in
/-- A trip: from round `k` in flight and round `k + 1` untouched to round `k` landed and round `k + 1` in flight. -/
theorem trip (k : Fin k0_t1_loop.trips)
   (XV : Buf (Elt F) (xvM.view.loc (c : Thread nD τ)))
   (V : Buf (Elt F) (outM.view.loc (c : Thread nD τ))) (W : Waits sig Unit) :
   iprop(xvP c XV ∗ air8 c k.val (G c v27 v45 XV) ∗ rows8 c (k.val + 1) V ∗ owes (c : Thread nD τ) 0 W)
     ⊢ wp frame (wpE (defs₀ (F := F)) 𝒱₀ (c : Thread nD τ) none) Set.univ (tripG v27 v45 c7 v1026 k)
      (fun _ => iprop(xvP c XV ∗ rows8 c k.val (G c v27 v45 XV) ∗ air8 c (k.val + 1) (G c v27 v45 XV) ∗ ∃ W, owes (c : Thread nD τ) 0 W)) := by
  iintro ⟨HX, ⟨⟨%f0, HF0⟩, ⟨%f1, HF1⟩, ⟨%f2, HF2⟩, ⟨%f3, HF3⟩, ⟨%f4, HF4⟩, ⟨%f5, HF5⟩, ⟨%f6, HF6⟩, ⟨%f7, HF7⟩⟩, ⟨HB0, HB1, HB2, HB3, HB4, HB5, HB6, HB7⟩, HW⟩
  dsimp only [tripG]
  sl_unfold [k0_t1_body]
  sl_exec
  sl_step
  isplitl [HX]; · iexact HX
  isplitl [HF0_dst HF1_dst HF2_dst HF3_dst HF4_dst HF5_dst HF6_dst HF7_dst]
  · isplitl [HF0_dst]; · iexact HF0_dst
    isplitl [HF1_dst]; · iexact HF1_dst
    isplitl [HF2_dst]; · iexact HF2_dst
    isplitl [HF3_dst]; · iexact HF3_dst
    isplitl [HF4_dst]; · iexact HF4_dst
    isplitl [HF5_dst]; · iexact HF5_dst
    isplitl [HF6_dst]; · iexact HF6_dst
    iexact HF7_dst
  isplitr [HW]
  · isplitl [HF0]; · iapply (flight_done c 0 (wb (k.val + 1) 0) v27 v45 XV V f0 _ _ (rowsT c XV k 0) _ ?_ ?_ ?_ (fun j => row_trip c XV k 0 j _)) $$ HF0 <;> rfl
    isplitl [HF1]; · iapply (flight_done c 1 (wb (k.val + 1) 1) v27 v45 XV V f1 _ _ (rowsT c XV k 1) _ ?_ ?_ ?_ (fun j => row_trip c XV k 1 j _)) $$ HF1 <;> rfl
    isplitl [HF2]; · iapply (flight_done c 2 (wb (k.val + 1) 2) v27 v45 XV V f2 _ _ (rowsT c XV k 2) _ ?_ ?_ ?_ (fun j => row_trip c XV k 2 j _)) $$ HF2 <;> rfl
    isplitl [HF3]; · iapply (flight_done c 3 (wb (k.val + 1) 3) v27 v45 XV V f3 _ _ (rowsT c XV k 3) _ ?_ ?_ ?_ (fun j => row_trip c XV k 3 j _)) $$ HF3 <;> rfl
    isplitl [HF4]; · iapply (flight_done c 4 (wb (k.val + 1) 4) v27 v45 XV V f4 _ _ (rowsT c XV k 4) _ ?_ ?_ ?_ (fun j => row_trip c XV k 4 j _)) $$ HF4 <;> rfl
    isplitl [HF5]; · iapply (flight_done c 5 (wb (k.val + 1) 5) v27 v45 XV V f5 _ _ (rowsT c XV k 5) _ ?_ ?_ ?_ (fun j => row_trip c XV k 5 j _)) $$ HF5 <;> rfl
    isplitl [HF6]; · iapply (flight_done c 6 (wb (k.val + 1) 6) v27 v45 XV V f6 _ _ (rowsT c XV k 6) _ ?_ ?_ ?_ (fun j => row_trip c XV k 6 j _)) $$ HF6 <;> rfl
    iapply (flight_done c 7 (wb (k.val + 1) 7) v27 v45 XV V f7 _ _ (rowsT c XV k 7) _ ?_ ?_ ?_ (fun j => row_trip c XV k 7 j _)) $$ HF7 <;> rfl
  iexists _; iexact HW

/-- The blocks of the rounds before `k`, landed at `g`. -/
def done (g : Buf (Elt F) (outM.view.loc (c : Thread nD τ))) : ℕ → sProp 𝕄
  | 0 => iprop(emp)
  | k + 1 => iprop(rows8 c k g ∗ done g k)
/-- The blocks of the last `n` rounds, still at `V`. -/
def todo (V : Buf (Elt F) (outM.view.loc (c : Thread nD τ))) : ℕ → sProp 𝕄
  | 0 => iprop(emp)
  | n + 1 => iprop(rows8 c (3 - n) V ∗ todo V n)

/-- One round more landed. -/
theorem done_succ (g : Buf (Elt F) (outM.view.loc (c : Thread nD τ))) (k : ℕ) : done c g (k + 1) = iprop(rows8 c k g ∗ done c g k) := rfl
/-- One round more untouched. -/
theorem todo_succ (V : Buf (Elt F) (outM.view.loc (c : Thread nD τ))) (n : ℕ) : todo c V (n + 1) = iprop(rows8 c (3 - n) V ∗ todo c V n) := rfl

/-- What the loop holds before trip `k`: the input's copy, the rounds before `k` landed, round `k` in flight, the
    later rounds untouched. -/
def invAt (XV : Buf (Elt F) (xvM.view.loc (c : Thread nD τ))) (V : Buf (Elt F) (outM.view.loc (c : Thread nD τ))) (k : ℕ) : sProp 𝕄 :=
  iprop(xvP c XV ∗ air8 c k (G c v27 v45 XV) ∗ done c (G c v27 v45 XV) k ∗ todo c V (3 - k) ∗ ∃ W, owes (c : Thread nD τ) 0 W)

/-- A trip takes the invariant to the next. -/
theorem inv_step (XV : Buf (Elt F) (xvM.view.loc (c : Thread nD τ))) (V : Buf (Elt F) (outM.view.loc (c : Thread nD τ))) (k : Fin k0_t1_loop.trips) :
    invAt c v27 v45 XV V k.val ⊢ wp frame (wpE (defs₀ (F := F)) 𝒱₀ (c : Thread nD τ) none) Set.univ (tripG v27 v45 c7 v1026 k)
      (fun _ => invAt c v27 v45 XV V (k.val + 1)) := by
  have hk := trips_lt k
  have e : 3 - k.val = (3 - (k.val + 1)) + 1 := by omega
  have e' : 3 - (3 - (k.val + 1)) = k.val + 1 := by omega
  unfold invAt
  rw [e, todo_succ, e', done_succ]
  iintro ⟨HX, HA, HD, ⟨HR, HT⟩, ⟨%W, HW⟩⟩
  iapply (wp_wand_r Idealize.ShloMosaic.frame (wpE (defs₀ (F := F)) 𝒱₀ (c : Thread nD τ) none) Set.univ)
  isplitl [HX HA HR HW]
  · iapply (trip c v27 v45 c7 v1026 k XV V W)
    isplitl [HX]; · iexact HX
    isplitl [HA]; · iexact HA
    isplitl [HR]; · iexact HR
    iexact HW
  · iintro %_ ⟨HX, HR, HA, HW⟩
    isplitl [HX]; · iexact HX
    isplitl [HA]; · iexact HA
    isplitl [HR HD]
    · isplitl [HR]; · iexact HR
      iexact HD
    isplitl [HT]; · iexact HT
    iexact HW

set_option warn.classDefReducibility false in
/-- The loop's invariant, as the run finds it. -/
@[sl_loop] def loopInv (XV : Buf (Elt F) (xvM.view.loc (c : Thread nD τ))) (V : Buf (Elt F) (outM.view.loc (c : Thread nD τ))) :
    LoopInvTy_k0_t1 (F := F) Unit ℕ (UU nD τ) ℕ 𝒱₀ c none Set.univ xM (Memref.isWhole_whole _) outM (Memref.isWhole_whole _) xvM (Memref.isWhole_whole _) bufM (Memref.isWhole_whole _) cc0_scratch2 cc0_scratch3 v27 v45 c7 v1026 where
  inv k _ := invAt c v27 v45 XV V k
  step k _ := inv_step c v27 v45 c7 v1026 XV V k

end Cert.Proof.KernelIdeal
end
-- ==== Proof.Ring.Body.lean ====
/-
  The kernel's body: the input copied in, the prologue's eight blocks, the loop, the epilogue's eight waits.
-/
module

public import proofs.«01_k».proof.Proof.Ring.Trip

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

variable (c : Dev nD)

/-- Equal assertions entail each other. -/
theorem of_eq {P Q : sProp 𝕄} (e : P = Q) : P ⊢ Q := by rw [e]

/-- The kernel's body on its buffers and cells. -/
abbrev bodyG : Prog (TpuEff nD τ sig (Elt F) Λ₀ .tc) PUnit :=
  cc0__burst_body xM (Memref.isWhole_whole _) outM (Memref.isWhole_whole _) xvM (Memref.isWhole_whole _) bufM (Memref.isWhole_whole _) cc0_scratch2 cc0_scratch3

/-- The input held whole at `XA`. -/
abbrev xP (XA : Buf (Elt F) (xM.view.loc (c : Thread nD τ))) : sProp 𝕄 := xM.view.loc (c : Thread nD τ) ↦{fullShare} XA
/-- The input's copy's cell at zero. -/
abbrev xcellP : sProp 𝕄 := semVal ((c : Thread nD τ), SemLoc.dma cc0_scratch2.sem) 0
/-- The eight slots at anything. -/
abbrev slots8 : sProp 𝕄 :=
  iprop((∃ f, slotP c 0 f) ∗ (∃ f, slotP c 1 f) ∗ (∃ f, slotP c 2 f) ∗ (∃ f, slotP c 3 f)
    ∗ (∃ f, slotP c 4 f) ∗ (∃ f, slotP c 5 f) ∗ (∃ f, slotP c 6 f) ∗ (∃ f, slotP c 7 f))
/-- The eight slots' cells at zero. -/
abbrev cells8 : sProp 𝕄 :=
  iprop(cellP (F := F) c 0 ∗ cellP (F := F) c 1 ∗ cellP (F := F) c 2 ∗ cellP (F := F) c 3
    ∗ cellP (F := F) c 4 ∗ cellP (F := F) c 5 ∗ cellP (F := F) c 6 ∗ cellP (F := F) c 7)

/-- The loop's invariant before the first trip: round 0 in flight, the other rounds untouched. -/
theorem invAt_zero (v27 : FVec F S32x4096 .f32) (v45 : IVec S32x4096 1) (XV : Buf (Elt F) (xvM.view.loc (c : Thread nD τ))) (V : Buf (Elt F) (outM.view.loc (c : Thread nD τ))) :
    (invAt c v27 v45 XV V 0 : sProp 𝕄) = iprop(xvP c XV ∗ air8 c 0 (G c v27 v45 XV) ∗ emp ∗ todo c V 3 ∗ ∃ W, owes (c : Thread nD τ) 0 W) := rfl
/-- The loop's invariant after the last trip: round 3 in flight, the other rounds landed. -/
theorem invAt_last (v27 : FVec F S32x4096 .f32) (v45 : IVec S32x4096 1) (XV : Buf (Elt F) (xvM.view.loc (c : Thread nD τ))) (V : Buf (Elt F) (outM.view.loc (c : Thread nD τ))) :
    (invAt c v27 v45 XV V k0_t1_loop.trips : sProp 𝕄)
      = iprop(xvP c XV ∗ air8 c 3 (G c v27 v45 XV) ∗ done c (G c v27 v45 XV) 3 ∗ emp ∗ ∃ W, owes (c : Thread nD τ) 0 W) := rfl

/-- What the body is handed: the input, its copy at anything, the output's blocks at `V`, the slots, the cells at zero. -/
abbrev PRE (XA : Buf (Elt F) (xM.view.loc (c : Thread nD τ))) (XV : Buf (Elt F) (xvM.view.loc (c : Thread nD τ)))
    (V : Buf (Elt F) (outM.view.loc (c : Thread nD τ))) (W : Waits sig Unit) : sProp 𝕄 :=
  iprop(xP c XA ∗ xvP c XV ∗ xcellP c ∗ todo c V 4 ∗ slots8 c ∗ cells8 c ∗ owes (c : Thread nD τ) 0 W)

/-- The input's contents as the copy's. -/
abbrev XAv (XA : Buf (Elt F) (xM.view.loc (c : Thread nD τ))) : Buf (Elt F) (xvM.view.loc (c : Thread nD τ)) := fun i : S256x4096.Idx => XA i
/-- The copy lands the input's contents. -/
theorem xv_landed (XA : Buf (Elt F) (xM.view.loc (c : Thread nD τ))) (XV : Buf (Elt F) (xvM.view.loc (c : Thread nD τ))) :
    xvM.view.write (Elt F) XV (ReadAs.same.apply (xM.view.read (Elt F) XA)) Finset.univ = XAv c XA :=
  View.write_whole_univ _ _ _
/-- The input's copy, the input written over it whole, is held at the input's contents. -/
theorem xv_done (XA : Buf (Elt F) (xM.view.loc (c : Thread nD τ))) (XV w : Buf (Elt F) (xvM.view.loc (c : Thread nD τ)))
    (hw : w = xvM.view.write (Elt F) XV (ReadAs.same.apply (xM.view.read (Elt F) XA)) Finset.univ) :
    (xvP c w : sProp 𝕄) ⊢ xvP c (XAv c XA) := by
  rw [hw, xv_landed]
/-- The rows the prologue reads for slot `s`. -/
def rowsP (XV : Buf (Elt F) (xvM.view.loc (c : Thread nD τ))) (s : Fin 8) (j : Fin 8) : Vec F S1x4096 .f32 :=
  xvM.view.readAt (Elt F) (Rect.unit (s := S256x4096) (k0_off1 (BitVec.ofNat 32 (8 * s.val)) (BitVec.ofNat 32 j.val)) S1x4096.size (k0_off1_inb s j)).toLoadRect XV
/-- The row the prologue computes at step `j` of slot `s`, read off the input's landed copy, is the block's row `j`. -/
theorem row_pro (XA : Buf (Elt F) (xM.view.loc (c : Thread nD τ))) (XV : Buf (Elt F) (xvM.view.loc (c : Thread nD τ))) (s j : Fin 8) :
    rowsP c (xvM.view.write (Elt F) XV (ReadAs.same.apply (xM.view.read (Elt F) XA)) Finset.univ) s j
      = rowOf c (XAv c XA) (⟨8 * (wb 0 s).val + j.val, by have := (wb 0 s).isLt; omega⟩ : Fin 256) := by
  rw [xv_landed]
  refine rowOf_congr c _ ?_ _
  have e : 8 * s.val + j.val = 8 * (wb 0 s).val + j.val := by rw [wb_val s (by omega)]; omega
  show _ = ![8 * (wb 0 s).val + j.val, 0]
  rw [← e, k0_off1_eq]

/-- What the kernel leaves in the output, from the input's contents. -/
def outG (XA : Buf (Elt F) (xM.view.loc (c : Thread nD τ))) : Buf (Elt F) (outM.view.loc (c : Thread nD τ)) :=
  G c k0_pay81 (k0_pay83 k0_pay82 3#32) (XAv c XA)
/-- What the body hands back: the input as it was, every block landed, the slots and the cells. -/
abbrev POST (XA : Buf (Elt F) (xM.view.loc (c : Thread nD τ))) : sProp 𝕄 :=
  iprop(xP c XA ∗ (∃ XV, xvP c XV) ∗ xcellP c ∗ done c (outG c XA) 4 ∗ slots8 c ∗ cells8 c ∗ ∃ W, owes (c : Thread nD τ) 0 W)

attribute [local irreducible] invAt in
set_option maxHeartbeats 4000000 in
/-- The body: the input copied in, round 0 computed and issued, the loop by its invariant, round 3 waited. -/
theorem body (XA : Buf (Elt F) (xM.view.loc (c : Thread nD τ))) (XV : Buf (Elt F) (xvM.view.loc (c : Thread nD τ)))
    (V : Buf (Elt F) (outM.view.loc (c : Thread nD τ))) (W : Waits sig Unit) (Q : PUnit → sProp 𝕄) :
    iprop(PRE c XA XV V W ∗ (POST c XA -∗ Q ⟨⟩)) ⊢ wp frame (wpE (defs₀ (F := F)) 𝒱₀ (c : Thread nD τ) none) Set.univ (bodyG (F := F)) Q := by
  iintro ⟨⟨HA, HX, HXC, HB, ⟨⟨%f0, HS0⟩, ⟨%f1, HS1⟩, ⟨%f2, HS2⟩, ⟨%f3, HS3⟩, ⟨%f4, HS4⟩, ⟨%f5, HS5⟩, ⟨%f6, HS6⟩, ⟨%f7, HS7⟩⟩, ⟨HC0, HC1, HC2, HC3, HC4, HC5, HC6, HC7⟩, HW⟩, Hk⟩
  ihave HB' := (of_eq (todo_succ c V 3)) $$ HB
  icases HB' with ⟨⟨HB0, HB1, HB2, HB3, HB4, HB5, HB6, HB7⟩, HT⟩
  sl_exec
  ihave HXv : (xvP c (XAv c XA) : sProp 𝕄) $$ [HX]
  · iapply (xv_done c XA XV _ ?_) $$ HX <;> rfl
  ihave HA0 : (air8 c 0 (G c k0_pay81 body.sl.r (XAv c XA)) : sProp 𝕄) $$ [HC0 HC1 HC2 HC3 HC4 HC5 HC6 HC7]
  · isplitl [HC0]; · iapply (flight_done c 0 (wb 0 0) k0_pay81 body.sl.r (XAv c XA) V f0 _ _ (rowsP c _ 0) _ ?_ ?_ ?_ (fun j => row_pro c XA XV 0 j)) $$ HC0 <;> rfl
    isplitl [HC1]; · iapply (flight_done c 1 (wb 0 1) k0_pay81 body.sl.r (XAv c XA) V f1 _ _ (rowsP c _ 1) _ ?_ ?_ ?_ (fun j => row_pro c XA XV 1 j)) $$ HC1 <;> rfl
    isplitl [HC2]; · iapply (flight_done c 2 (wb 0 2) k0_pay81 body.sl.r (XAv c XA) V f2 _ _ (rowsP c _ 2) _ ?_ ?_ ?_ (fun j => row_pro c XA XV 2 j)) $$ HC2 <;> rfl
    isplitl [HC3]; · iapply (flight_done c 3 (wb 0 3) k0_pay81 body.sl.r (XAv c XA) V f3 _ _ (rowsP c _ 3) _ ?_ ?_ ?_ (fun j => row_pro c XA XV 3 j)) $$ HC3 <;> rfl
    isplitl [HC4]; · iapply (flight_done c 4 (wb 0 4) k0_pay81 body.sl.r (XAv c XA) V f4 _ _ (rowsP c _ 4) _ ?_ ?_ ?_ (fun j => row_pro c XA XV 4 j)) $$ HC4 <;> rfl
    isplitl [HC5]; · iapply (flight_done c 5 (wb 0 5) k0_pay81 body.sl.r (XAv c XA) V f5 _ _ (rowsP c _ 5) _ ?_ ?_ ?_ (fun j => row_pro c XA XV 5 j)) $$ HC5 <;> rfl
    isplitl [HC6]; · iapply (flight_done c 6 (wb 0 6) k0_pay81 body.sl.r (XAv c XA) V f6 _ _ (rowsP c _ 6) _ ?_ ?_ ?_ (fun j => row_pro c XA XV 6 j)) $$ HC6 <;> rfl
    iapply (flight_done c 7 (wb 0 7) k0_pay81 body.sl.r (XAv c XA) V f7 _ _ (rowsP c _ 7) _ ?_ ?_ ?_ (fun j => row_pro c XA XV 7 j)) $$ HC7 <;> rfl
  ihave HI : (invAt c k0_pay81 body.sl.r (XAv c XA) V 0 : sProp 𝕄) $$ [HXv HA0 HT HW]
  · rw [invAt_zero]
    isplitl [HXv]; · iexact HXv
    isplitl [HA0]; · iexact HA0
    isplitr [HT HW]; · exact .rfl
    isplitl [HT]; · iexact HT
    iexists _; iexact HW
  sl_exec
  ihave HI2 := (of_eq (invAt_last c k0_pay81 body.sl.r (XAv c XA) V)) $$ HI
  icases HI2 with ⟨HXv, ⟨⟨%g0, HF0⟩, ⟨%g1, HF1⟩, ⟨%g2, HF2⟩, ⟨%g3, HF3⟩, ⟨%g4, HF4⟩, ⟨%g5, HF5⟩, ⟨%g6, HF6⟩, ⟨%g7, HF7⟩⟩, HD, -, ⟨%W', HW⟩⟩
  sl_exec
  sl_step
  iapply Hk
  isplitl [HA]; · iexact HA
  isplitl [HXv]; · iexists _; iexact HXv
  isplitl [HXC]; · iexact HXC
  isplitl [HD HF0_dst HF1_dst HF2_dst HF3_dst HF4_dst HF5_dst HF6_dst HF7_dst]
  · iapply (of_eq (done_succ c (outG c XA) 3).symm)
    isplitr [HD]
    · isplitl [HF0_dst]; · iexact HF0_dst
      isplitl [HF1_dst]; · iexact HF1_dst
      isplitl [HF2_dst]; · iexact HF2_dst
      isplitl [HF3_dst]; · iexact HF3_dst
      isplitl [HF4_dst]; · iexact HF4_dst
      isplitl [HF5_dst]; · iexact HF5_dst
      isplitl [HF6_dst]; · iexact HF6_dst
      iexact HF7_dst
    iexact HD
  isplitl [HF0_src HF1_src HF2_src HF3_src HF4_src HF5_src HF6_src HF7_src]
  · isplitl [HF0_src]; · iexists _; iexact HF0_src
    isplitl [HF1_src]; · iexists _; iexact HF1_src
    isplitl [HF2_src]; · iexists _; iexact HF2_src
    isplitl [HF3_src]; · iexists _; iexact HF3_src
    isplitl [HF4_src]; · iexists _; iexact HF4_src
    isplitl [HF5_src]; · iexists _; iexact HF5_src
    isplitl [HF6_src]; · iexists _; iexact HF6_src
    iexists _; iexact HF7_src
  isplitr [HW]
  · isplitl [HF0]; · iexact HF0
    isplitl [HF1]; · iexact HF1
    isplitl [HF2]; · iexact HF2
    isplitl [HF3]; · iexact HF3
    isplitl [HF4]; · iexact HF4
    isplitl [HF5]; · iexact HF5
    isplitl [HF6]; · iexact HF6
    iexact HF7
  iexists _; iexact HW

end Cert.Proof.KernelIdeal
end
-- ==== Proof.Ring.Launch.lean ====
/-
  The launch: the output whole is its 32 blocks, the staging buffer its 8 slots; the kernel's one point run; and what
  every final state holds.
-/
module

public import proofs.«01_k».proof.Proof.Ring.Body
public import Idealize.ShloMosaic.Lib.Pipeline.BigSepL

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The output's 32 blocks, the staging buffer's 8 slots -/

/-- The output's elements of block `b`. -/
abbrev BS (b : Fin 32) : Finset S256x32x4096.Idx := (Rect.unit (s := S256x32x4096) (blkOff b) S8x32x4096.size (blkOff_inb b)).set
/-- The staging buffer's elements of slot `s`. -/
abbrev SS (s : Fin 8) : Finset S8x8x32x4096.Idx := (Rect.unit (s := S8x8x32x4096) (slotOff s) S1x8x32x4096.size (slotOff_inb s)).set

/-- Block `b` covers exactly those elements. -/
theorem blk_set (b : Fin 32) : (blk b).view.set = BS b := View.set_slice_whole _ _
/-- Slot `s` covers exactly those elements. -/
theorem slot_set (s : Fin 8) : (rslot s).view.set = SS s := (View.set_reshape _ _).trans (View.set_slice_whole _ _)

/-- Two blocks share no element. -/
theorem blks_disjoint : ∀ b b' : Fin 32, b ≠ b' → Disjoint (BS b) (BS b') :=
  Ring.lead_disjoint (s := S256x32x4096) (a₀ := 0) (R := 8) blkOff S8x32x4096.size blkOff_inb (fun _ => rfl) rfl
/-- The 32 blocks cover the output. -/
theorem blks_cover : (Finset.univ : Finset (Fin 32)).biUnion BS = Finset.univ :=
  Ring.lead_cover (s := S256x32x4096) (a₀ := 0) (R := 8) blkOff S8x32x4096.size blkOff_inb (fun _ => rfl)
    (fun b a h => by fin_cases a <;> first | exact absurd rfl h | rfl) rfl (fun a h => by fin_cases a <;> first | exact absurd rfl h | rfl) rfl
/-- Two slots share no element. -/
theorem slots_disjoint : ∀ s s' : Fin 8, s ≠ s' → Disjoint (SS s) (SS s') :=
  Ring.lead_disjoint (s := S8x8x32x4096) (a₀ := 0) (R := 1) slotOff S1x8x32x4096.size slotOff_inb (fun s => (Nat.one_mul s.val).symm) rfl
/-- The 8 slots cover the staging buffer. -/
theorem slots_cover : (Finset.univ : Finset (Fin 8)).biUnion SS = Finset.univ :=
  Ring.lead_cover (s := S8x8x32x4096) (a₀ := 0) (R := 1) slotOff S1x8x32x4096.size slotOff_inb (fun s => (Nat.one_mul s.val).symm)
    (fun b a h => by fin_cases a <;> first | exact absurd rfl h | rfl) rfl (fun a h => by fin_cases a <;> first | exact absurd rfl h | rfl) rfl

variable (c : Dev nD)

/-- The blocks of round `k`, in order. -/
def rd (k : ℕ) : List (Fin 32) := [wb k 0, wb k 1, wb k 2, wb k 3, wb k 4, wb k 5, wb k 6, wb k 7]
/-- The blocks of round `k` held one by one are the round held. -/
theorem rd_eq (k : ℕ) (g : Buf (Elt F) (outM.view.loc (c : Thread nD τ))) :
    (bigSepL (rd k) (fun b => blkP c b g) : sProp 𝕄) = rows8 c k g := rfl
/-- The output whole is the four rounds of blocks, first to last; -/
theorem out_todo (g : Buf (Elt F) (outM.view.loc (c : Thread nD τ))) :
    (((c : Thread nD τ).loc main_v0) ↦{fullShare} g : sProp 𝕄) = todo c g 4 := by
  have h : (bigSep Finset.univ (fun b => blkP c b g) : sProp 𝕄) = bigSepL (rd 0 ++ (rd 1 ++ (rd 2 ++ (rd 3 ++ [])))) (fun b => blkP c b g) :=
    bigSep_univ_eq_bigSepL _ (by decide +kernel) (by decide +kernel) _
  rw [bigSepL_append, bigSepL_append, bigSepL_append, bigSepL_append, rd_eq, rd_eq, rd_eq, rd_eq] at h
  refine Eq.trans ?_ h
  rw [Ring.pointsTo_blocks (ℓ := (c : Thread nD τ).loc main_v0) BS blks_disjoint blks_cover]
  exact bigSep_congr fun b _ => by rw [← blk_set]; rfl
/-- and last to first. -/
theorem out_done (g : Buf (Elt F) (outM.view.loc (c : Thread nD τ))) :
    (((c : Thread nD τ).loc main_v0) ↦{fullShare} g : sProp 𝕄) = done c g 4 := by
  have h : (bigSep Finset.univ (fun b => blkP c b g) : sProp 𝕄) = bigSepL (rd 3 ++ (rd 2 ++ (rd 1 ++ (rd 0 ++ [])))) (fun b => blkP c b g) :=
    bigSep_univ_eq_bigSepL _ (by decide +kernel) (by decide +kernel) _
  rw [bigSepL_append, bigSepL_append, bigSepL_append, bigSepL_append, rd_eq, rd_eq, rd_eq, rd_eq] at h
  refine Eq.trans ?_ h
  rw [Ring.pointsTo_blocks (ℓ := (c : Thread nD τ).loc main_v0) BS blks_disjoint blks_cover]
  exact bigSep_congr fun b _ => by rw [← blk_set]; rfl

/-- A slot held is its elements of the staging buffer held. -/
theorem slotP_eq (s : Fin 8) (f) : slotP c s f = (((c : Thread nD τ).loc cc0_scratch1) ↦[SS s]{fullShare} f : sProp 𝕄) :=
  congrArg (fun S => (_ ↦[S]{fullShare} f : sProp 𝕄)) (slot_set s)
/-- The eight slots, each at contents of its own, as one family. -/
theorem slots8_eq : (slots8 c : sProp 𝕄) = bigSep Finset.univ (fun s => iprop(∃ f, ((c : Thread nD τ).loc cc0_scratch1) ↦[SS s]{fullShare} f)) := by
  rw [bigSep_univ_eq_bigSepL [(0 : Fin 8), 1, 2, 3, 4, 5, 6, 7] (by decide) (by decide)]
  simp only [slots8, slotP_eq]; rfl
/-- The staging buffer whole is its eight slots, -/
theorem buf_split :
    iprop(∃ f : Buf (Elt F) ((c : Thread nD τ).loc cc0_scratch1), ((c : Thread nD τ).loc cc0_scratch1) ↦{fullShare} f) ⊢ (slots8 c : sProp 𝕄) := by
  rw [slots8_eq]
  iintro ⟨%f, H⟩
  have h : (((c : Thread nD τ).loc cc0_scratch1) ↦{fullShare} f : sProp 𝕄)
      ⊢ bigSep Finset.univ (fun s => iprop(∃ f, ((c : Thread nD τ).loc cc0_scratch1) ↦[SS s]{fullShare} f)) := by
    rw [Ring.pointsTo_blocks (ℓ := (c : Thread nD τ).loc cc0_scratch1) SS slots_disjoint slots_cover f]
    refine bigSep_mono (fun s _ => ?_)
    show (((c : Thread nD τ).loc cc0_scratch1) ↦[SS s]{fullShare} f : sProp 𝕄) ⊢ iprop(∃ f, ((c : Thread nD τ).loc cc0_scratch1) ↦[SS s]{fullShare} f)
    iintro H; iexists f; iexact H
  iapply h; iexact H
/-- and back. -/
theorem buf_join :
    (slots8 c : sProp 𝕄) ⊢ iprop(∃ f : Buf (Elt F) ((c : Thread nD τ).loc cc0_scratch1), ((c : Thread nD τ).loc cc0_scratch1) ↦{fullShare} f) := by
  refine BIBase.Entails.trans (Q := iprop(∃ f0 : Buf (Elt F) ((c : Thread nD τ).loc cc0_scratch1), bigSep Finset.univ (fun s => iprop(∃ f, ((c : Thread nD τ).loc cc0_scratch1) ↦[SS s]{fullShare} f)))) ?_ ?_
  · rw [← slots8_eq]
    iintro ⟨⟨%f0, H0⟩, H⟩
    iexists f0
    isplitl [H0]; · iexists f0; iexact H0
    iexact H
  · iintro ⟨%f0, H⟩
    iapply (Ring.pointsTo_blocks_join_exists (ℓ := (c : Thread nD τ).loc cc0_scratch1) SS slots_disjoint slots_cover f0)
    iexact H

/-! ## The kernel's own cells -/

/-- The kernel's own nine cells: the input's copy's and the eight slots'. -/
abbrev osem : Fin 9 → SemLoc sig :=
  ![.dma cc0_scratch2.sem, .dma (csm 0).sem, .dma (csm 1).sem, .dma (csm 2).sem, .dma (csm 3).sem, .dma (csm 4).sem, .dma (csm 5).sem, .dma (csm 6).sem, .dma (csm 7).sem]
/-- The nine cells are different and are the kernel's own. -/
theorem ownSemFacts : Pipeline.OwnSemFacts (cfg0.spec) osem := by decide
/-- The kernel's own cells at zero are the input's copy's and the eight slots'. -/
theorem ownSems0_eq : (Pipeline.ownSems0 (Ix := Unit) (Name := ℕ) (U := UU nD τ) (Lvl := ℕ) (Val := Elt F) (τ := τ) osem c : sProp 𝕄)
    = iprop(xcellP c ∗ cells8 c) := by
  unfold Pipeline.ownSems0
  rw [bigSep_univ_eq_bigSepL [(0 : Fin 9), 1, 2, 3, 4, 5, 6, 7, 8] (by decide) (by decide)]; rfl

/-! ## The region's data -/

variable (m : (ℓ : Loc nD τ sig) → Buf (Elt F) ℓ) (ρ : Dev nD → PrngReg)

/-- The input's contents at launch. -/
abbrev XAof : Buf (Elt F) (xM.view.loc (c : Thread nD τ)) := m ((c : Thread nD τ).loc main_arg0)
/-- What every final state holds in the output. -/
def outOf : Buf (Elt F) ((c : Thread nD τ).loc main_v0) := outG c (XAof c m)

/-- What the point needs and gives back besides the output: the input, its copy, the slots, the cells. -/
def Own : sProp 𝕄 := iprop(xP c (XAof c m) ∗ (∃ XV, xvP c XV) ∗ slots8 c ∗ xcellP c ∗ cells8 c)
/-- Before the point the output holds its contents at launch; after it, the kernel's result. -/
def Φ (t : Fin (cfg0.N + 1)) : sProp 𝕄 :=
  iprop((((c : Thread nD τ).loc main_v0) ↦{fullShare} (if t.val = 0 then m ((c : Thread nD τ).loc main_v0) else outOf c m)) ∗ Own c m)

/-- The launch's proof data: one point, no window, the assertion `Φ` before and after it. -/
def dats (_ : Fin 1) (c : Dev nD) : Dat τ (Elt F) Unit ℕ (UU nD τ) ℕ cfg0 c where
  A w := w.elim0
  after w _ := w.elim0
  Φ := Φ c m
  q _ := fullShare
  owed _ := 0

/-! ## The body obligation -/

/-- The launch's body is the kernel's body on its buffers and cells. -/
theorem defs_tc : (defs₀ (F := F)) .tc cfg0.body = fun _ => bodyG (F := F) := rfl
/-- What the point runs is the kernel's body on its buffers and cells. -/
theorem prog_eq (t : Fin cfg0.N) : (defs₀ (F := F)) .tc cfg0.body (cfg0.bodyArgs t (cfg0.slots t)) = bodyG (F := F) :=
  (congrFun defs_tc _).trans rfl

/-- There is no window, so the conjunction over the windows is empty. -/
theorem bigSep_W (Φ : Fin 0 → sProp 𝕄) : bigSep Finset.univ Φ = BI.emp :=
  bigSep_univ_eq_bigSepL [] (by decide) (by decide) Φ

set_option backward.isDefEq.respectTransparency.types false in
/-- The point takes `Φ` before it to `Φ` after it. -/
theorem body_obligation : BodyObligation (dats (F := F) m 0 c) (defs₀ (F := F)) 𝒱₀ () Set.univ := fun t => by
  obtain rfl := fin_N0 t
  rw [bigSep_W, bigSep_W]
  dsimp only
  rw [show (dats m 0 c).Φ t0_0.castSucc = iprop((((c : Thread nD τ).loc main_v0) ↦{fullShare} m ((c : Thread nD τ).loc main_v0)) ∗ Own c m) from rfl,
    show (dats m 0 c).Φ t0_0.succ = iprop((((c : Thread nD τ).loc main_v0) ↦{fullShare} outOf c m) ∗ Own c m) from rfl]
  unfold Dat.owesAt Pipeline.owesWithin
  rw [show (dats m 0 c).owed t0_0.castSucc = 0 from rfl, show (dats m 0 c).owed t0_0.succ = 0 from rfl]
  unfold Own
  rw [out_todo, out_done]
  iintro ⟨⟨HO, HA, ⟨%XV, HX⟩, HS, HXC, HC⟩, ⟨%W, -, HW⟩, -⟩
  sl_rw [prog_eq t0_0]
  iapply (body c (XAof c m) XV (m ((c : Thread nD τ).loc main_v0)) W)
  isplitl [HO HA HX HS HXC HC HW]
  · isplitl [HA]; · iexact HA
    isplitl [HX]; · iexact HX
    isplitl [HXC]; · iexact HXC
    isplitl [HO]; · iexact HO
    isplitl [HS]; · iexact HS
    isplitl [HC]; · iexact HC
    iexact HW
  · iintro ⟨HA, HX, HXC, HO, HS, HC, ⟨%W', HW⟩⟩
    isplitr [HW]
    · isplitl [HO]; · iexact HO
      isplitl [HA]; · iexact HA
      isplitl [HX]; · iexact HX
      isplitl [HS]; · iexact HS
      isplitl [HXC]; · iexact HXC
      iexact HC
    isplitl [HW]
    · iexists W'; isplitr; · ipureintro; exact fun _ _ => Or.inl trivial
      iexact HW
    iempintro

/-! ## The run -/

/-- What enters the region: the output at its contents at launch, the input, the nine cells at zero. -/
def intoΦ : sProp 𝕄 :=
  iprop((((c : Thread nD τ).loc main_v0) ↦{fullShare} m ((c : Thread nD τ).loc main_v0)) ∗ xP c (XAof c m) ∗ Pipeline.ownSems0 osem c)
/-- What leaves the region: the output at the kernel's result, the input. -/
def outOfΦ : sProp 𝕄 :=
  iprop((((c : Thread nD τ).loc main_v0) ↦{fullShare} outOf c m) ∗ xP c (XAof c m))
/-- The launch's ghost state. -/
def u₀ : UU nD τ := (initOf (Pipeline.cells cfgs Cert.KernelIdeal.Gen.cellOf_inj) (Pipeline.launchToks cfgs Cert.KernelIdeal.Gen.cellOf_inj), 1)
/-- What every final state holds: the output at the kernel's result, the input unchanged. -/
def QY (s : MemSt nD τ sig (Elt F)) : Prop :=
  s.mem ((c : Thread nD τ).loc main_v0) = outOf c m ∧ s.mem ((c : Thread nD τ).loc main_arg0) = m ((c : Thread nD τ).loc main_arg0)

set_option backward.isDefEq.respectTransparency.types false in
/-- For any float values and any memory with zero counters: every weakly fair execution terminates without fault, and
    every final state has the output at the kernel's result, the input unchanged, every semaphore counter at zero. -/
theorem run_main : θ_run (defs (F := F)) (onTc (τ := τ) (main (F := F))) ⟨m, fun _ => 0, ρ⟩
    (fun r => (∀ c : Dev nD, QY c m r.2) ∧ r.2.sem = fun _ => 0) :=
  Pipeline.θ_run_region_kit_quiescent cfgs (dats m) () (0 : Fin 1) launch0 ownSemFacts EP defs₀ 𝒱₀ m ρ main
    (hbody := fun c => (body_obligation c m).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := fun c => intoΦ c m) (Y := fun c => outOfΦ c m) (Z := fun _ => iprop(emp))
    (hX := fun c => by
      rw [unscopedRest0_eq]
      unfold intoΦ
      iintro ⟨⟨HA, HO⟩, HS, -, -, -⟩; imodintro
      isplitl [HA HO HS]
      · isplitl [HO]; · iexact HO
        isplitl [HA]; · iexact HA
        iexact HS
      iempintro)
    (hin := fun c => by
      rw [scopedRest0_eq, show (dats m 0 c).Φ 0 = iprop((((c : Thread nD τ).loc main_v0) ↦{fullShare} m ((c : Thread nD τ).loc main_v0)) ∗ Own c m) from rfl]
      unfold intoΦ Own; rw [ownSems0_eq]
      iintro ⟨⟨HO, HA, HXC, HC⟩, HX, Hb⟩
      isplitl [HO]; · iexact HO
      isplitl [HA]; · iexact HA
      isplitl [HX]; · iexact HX
      isplitl [Hb]; · iapply (buf_split c); iexact Hb
      isplitl [HXC]; · iexact HXC
      iexact HC)
    (hout := fun c => by
      rw [scopedRest0_eq, show (dats m 0 c).Φ (Fin.last cfg0.N) = iprop((((c : Thread nD τ).loc main_v0) ↦{fullShare} outOf c m) ∗ Own c m) from rfl, ownSems0_eq]
      unfold Own outOfΦ
      iintro ⟨HO, HA, HX, Hb, HXC, HC⟩
      isplitl [HO HA]
      · isplitl [HO]; · iexact HO
        iexact HA
      isplitl [HXC HC]
      · isplitl [HXC]; · iexact HXC
        iexact HC
      isplitl [HX]; · iexact HX
      iapply (buf_join c); iexact Hb)
    (QY := fun c => QY c m)
    (hY := fun c s' => by
      unfold outOfΦ
      iintro ⟨⟨HO, HA⟩, -, HSI⟩
      icombine HSI HO gives %h0
      icombine HSI HA gives %h1
      imodintro
      isplitr; · ipureintro; exact ⟨Buf.eq_of_forall_mem_univ h0, Buf.eq_of_forall_mem_univ h1⟩
      iexact HSI)
    (hQ := fun _ hh hz => ⟨fun c => (hh c).2, hz⟩)

end Cert.Proof.KernelIdeal
end
-- ==== Proof.Value.lean ====
/-
  The kernel's result is the reference's, at the ideal instance: element by element, both are one when the time step
  lies within its sub-window and the input, four times, has reached the sub-window's number; else zero.
-/
module

public import proofs.«01_k».proof.Proof.Ring.Body
public import proofs.«01_k».proof.Proof.Gen.ReferenceIdeal
public import Idealize.ShloMosaic.Lib.Pointwise

@[expose] public section

noncomputable section

namespace Cert.Proof.Value

open Idealize.ShloMosaic Idealize.ShloMosaic.TcCoe
open Cert.ReferenceIdeal Cert.ReferenceIdeal.Gen

/-! ## The reference's terms -/

/-- The eight the reference divides by, as it guards it against zero. -/
def refD : IVec S_ 32 := select (cmpi .eq (id (constantI S_ 32 8#32)) (constantI S_ 32 0#32)) (constantI S_ 32 1#32) (id (constantI S_ 32 8#32))
/-- The remainder of the time step, toward zero, before its sign is corrected. -/
def refR0 : IVec S32 32 := Host.remsi (iotaInDim S32 32 0) (broadcastInDim S32 ![] bcast_S_S32 refD)
/-- The time step's place within its sub-window of eight. -/
def refR : IVec S32 32 :=
  select (andi (cmpi .ne (cmpi .slt refR0 (broadcastInDim S32 ![] bcast_S_S32 (constantI S_ 32 0#32))) (broadcastInDim S32 ![] bcast_S_S32 (cmpi .slt refD (constantI S_ 32 0#32))))
      (cmpi .ne refR0 (broadcastInDim S32 ![] bcast_S_S32 (constantI S_ 32 0#32))))
    (addi refR0 (broadcastInDim S32 ![] bcast_S_S32 refD)) refR0
/-- The time step's sub-window. -/
def refQ : IVec S32 32 :=
  select (andi (cmpi .ne (signi (iotaInDim S32 32 0)) (broadcastInDim S32 ![] bcast_S_S32 (signi (id (constantI S_ 32 8#32)))))
      (cmpi .ne (Host.remsi (iotaInDim S32 32 0) (broadcastInDim S32 ![] bcast_S_S32 (id (constantI S_ 32 8#32)))) (broadcastInDim S32 ![] bcast_S_S32 (constantI S_ 32 0#32))))
    (subi (Host.divsi (iotaInDim S32 32 0) (broadcastInDim S32 ![] bcast_S_S32 (id (constantI S_ 32 8#32)))) (broadcastInDim S32 ![] bcast_S_S32 (constantI S_ 32 1#32)))
    (Host.divsi (iotaInDim S32 32 0) (broadcastInDim S32 ![] bcast_S_S32 (id (constantI S_ 32 8#32))))
/-- How many bursts each input asks for: the input clipped to [0, 1], four times, truncated. -/
def refN (x : FVec Ideal S256x4096 .f32) : IVec S256x4096 32 :=
  fptosi 32 (mulf (minimumf (broadcastInDim S256x4096 ![] bcast_S_S256x4096 (id (constant S_ .f32 0x3F800000#32)))
      (maximumf (broadcastInDim S256x4096 ![] bcast_S_S256x4096 (id (constant S_ .f32 0x00000000#32))) x))
    (broadcastInDim S256x4096 ![] bcast_S_S256x4096 (constant S_ .f32 0x40800000#32)))
/-- The reference's result. -/
def refOf (x : FVec Ideal S256x4096 .f32) : FVec Ideal S256x32x4096 .f32 :=
  uitofp .f32 (andi
    (broadcastInDim S256x32x4096 ![0, 1, 2] bcast_S1x32x1_S256x32x4096_0_1_2 (broadcastInDim S1x32x1 ![1] bcast_S32_S1x32x1_1
      (cmpi .slt refR (broadcastInDim S32 ![] bcast_S_S32 (constantI S_ 32 3#32)))))
    (cmpi .slt
      (broadcastInDim S256x32x4096 ![0, 1, 2] bcast_S1x32x1_S256x32x4096_0_1_2 (broadcastInDim S1x32x1 ![1] bcast_S32_S1x32x1_1 refQ))
      (broadcastInDim S256x32x4096 ![0, 1, 2] bcast_S256x1x4096_S256x32x4096_0_1_2 (broadcastInDim S256x1x4096 ![0, 2] bcast_S256x4096_S256x1x4096_0_2 (refN x)))))

/-! ## The integers, at each time step -/

/-- The reference's sub-window of time step `t` is `t / 8`. -/
theorem refQ_at (t : Fin 32) : refQ (ix1 t) = BitVec.ofNat 32 (t.val / 8) := by
  pointwise [refQ]
  revert t; decide

/-- The reference's place of time step `t` within its sub-window is `t % 8`. -/
theorem refR_at (t : Fin 32) : refR (ix1 t) = BitVec.ofNat 32 (t.val % 8) := by
  pointwise [refR, refR0, refD]
  revert t; decide

/-- The kernel's mask at time step `t`: `t % 8` below three. -/
theorem within_at (t : Fin 32) (l : Fin 4096) :
    Cert.KernelIdeal.Gen.k0_pay83 Cert.KernelIdeal.Gen.k0_pay82 3#32 (ix2 t l) = IntOp.cmpi .slt (BitVec.ofNat 32 (t.val % 8)) 3#32 := by
  pointwise [Cert.KernelIdeal.Gen.k0_pay83, Cert.KernelIdeal.Gen.k0_pay82]
  revert t; decide

/-- The kernel's threshold at time step `t`: `t / 8 + 1`. -/
theorem thr_at (t : Fin 32) (l : Fin 4096) :
    Cert.KernelIdeal.Gen.k0_pay81 (F := Ideal) (ix2 t l) = (((t.val / 8 : ℕ) + 1 : ℝ) : EReal) := by
  have h : ∀ b : BitVec 32, b.toInt = ((t.val / 8 : ℕ) : Int) + 1 → FloatOps.sitofp (F := Ideal) .f32 b = (((t.val / 8 : ℕ) + 1 : ℝ) : EReal) := fun b hb => by
    show ((b.toInt : ℝ) : EReal) = _
    rw [hb]; push_cast; rfl
  pointwise [Cert.KernelIdeal.Gen.k0_pay81]
  refine h _ ?_
  clear h
  revert t; decide

/-! ## The floats -/

/-- The pattern of one denotes one. -/
theorem one_def : Ideal.ofBits .f32 0x3F800000#32 = 1 := by
  simp [Ideal.ofBits, Ideal.ieee]
  rw [← EReal.coe_mul]; norm_num
/-- The pattern of four denotes four. -/
theorem four_def : Ideal.ofBits .f32 0x40800000#32 = ((4 : ℝ) : EReal) := by
  simp [Ideal.ofBits, Ideal.ieee]
  rw [← EReal.coe_mul]; norm_num

/-- A count of zero to four, as a word, compared with the truncation of a real in [0, 4]. -/
theorem count_lt (q : ℕ) (hq : q < 4) (r : ℝ) (h0 : 0 ≤ r) (h4 : r ≤ 4) :
    IntOp.cmpi .slt (BitVec.ofNat 32 q) (Ideal.fptosi 32 (r : EReal)) = BitVec.ofBool (decide ((q : ℝ) + 1 ≤ r)) := by
  have hf0 : 0 ≤ ⌊r⌋ := Int.floor_nonneg.2 h0
  have hf4 : ⌊r⌋ ≤ 4 := by
    have := Int.floor_le r
    exact_mod_cast (this.trans h4)
  have hiff : (q : ℝ) + 1 ≤ r ↔ (q : Int) + 1 ≤ ⌊r⌋ := by
    rw [Int.le_floor]; push_cast; exact Iff.rfl
  have hw : Ideal.fptosi 32 (r : EReal) = BitVec.ofInt 32 ⌊r⌋ := by
    unfold Ideal.fptosi
    rw [Ideal.toIntClamped_coe, if_pos h0]
    congr 1
    norm_num
    omega
  obtain ⟨k, hk⟩ : ∃ k : Fin 5, ⌊r⌋ = (k.val : Int) := ⟨⟨⌊r⌋.toNat, by omega⟩, by simp [hf0]⟩
  have hiff' : (q : ℝ) + 1 ≤ r ↔ q + 1 ≤ k.val := by rw [hiff, hk]; exact_mod_cast Iff.rfl
  have words : ∀ (q : Fin 4) (k : Fin 5), IntOp.cmpi .slt (BitVec.ofNat 32 q.val) (BitVec.ofInt 32 (k.val : Int)) = BitVec.ofBool (decide (q.val + 1 ≤ k.val)) := by decide
  rw [hw, hk, decide_eq_decide.2 hiff']
  exact words ⟨q, hq⟩ k

/-- The input clipped to [0, 1], four times, is a real in [0, 4], which has reached a positive count up to four
    just when four times the input has. -/
theorem clip_four (x : EReal) : ∃ r : ℝ, min 1 (max 0 x) * ((4 : ℝ) : EReal) = (r : EReal) ∧ 0 ≤ r ∧ r ≤ 4 ∧
    ∀ q : ℕ, q < 4 → (((q : ℝ) + 1 ≤ r) ↔ (((q : ℝ) + 1 : ℝ) : EReal) ≤ x * ((4 : ℝ) : EReal)) := by
  have hq0 (q : ℕ) : (0 : ℝ) ≤ q := Nat.cast_nonneg q
  have hq3 (q : ℕ) (h : q < 4) : (q : ℝ) + 1 ≤ 4 := by exact_mod_cast h
  induction x with
  | bot =>
    refine ⟨0, by simp, le_rfl, by norm_num, fun q hq => ⟨fun h => by have := hq0 q; linarith, fun h => ?_⟩⟩
    rw [EReal.bot_mul_coe_of_pos (by norm_num)] at h
    exact absurd (le_bot_iff.1 h) (EReal.coe_ne_bot _)
  | top =>
    refine ⟨4, by simp, by norm_num, le_rfl, fun q hq => ⟨fun h => ?_, fun h => hq3 q hq⟩⟩
    rw [EReal.top_mul_coe_of_pos (by norm_num)]
    exact le_top
  | coe y =>
    refine ⟨min 1 (max 0 y) * 4, ?_, ?_, ?_, fun q hq => ?_⟩
    · rw [EReal.coe_mul]
      congr 1
    · have : 0 ≤ min 1 (max 0 y) := le_min zero_le_one (le_max_left _ _)
      linarith
    · have : min 1 (max 0 y) ≤ 1 := min_le_left _ _
      linarith
    · rw [← EReal.coe_mul, EReal.coe_le_coe_iff]
      have := hq0 q
      have := hq3 q hq
      rcases le_total 0 y with h | h <;> rcases le_total 1 y with h' | h' <;>
        simp only [max_eq_right, max_eq_left, min_eq_left, min_eq_right, h, h', zero_le_one] <;>
        constructor <;> intro <;> linarith

/-- The reference's comparison of the sub-window with the truncated clipped input is the kernel's of the
    input with the threshold. -/
theorem burst (q : ℕ) (hq : q < 4) (x : EReal) :
    IntOp.cmpi .slt (BitVec.ofNat 32 q) (Ideal.fptosi 32 (min 1 (max 0 x) * ((4 : ℝ) : EReal)))
      = BitVec.ofBool (decide ((((q : ℝ) + 1 : ℝ) : EReal) ≤ x * ((4 : ℝ) : EReal))) := by
  obtain ⟨r, hr, h0, h4, h⟩ := clip_four x
  rw [hr, count_lt q hq r h0 h4, decide_eq_decide.2 (h q hq)]

/-- A bit widened and read signed is the bit read unsigned. -/
theorem bit_float (b : BitVec 1) : FloatOps.sitofp (F := Ideal) .f32 (b.setWidth 32) = FloatOps.uitofp (F := Ideal) .f32 b := by
  show (((b.setWidth 32).toInt : ℝ) : EReal) = ((b.toNat : ℝ) : EReal)
  have : (b.setWidth 32).toInt = (b.toNat : Int) := by revert b; decide
  rw [this, Int.cast_natCast]

/-! ## The two results, element by element -/

/-- The reference's truncated count at an input. -/
theorem refN_at (x : FVec Ideal S256x4096 .f32) (n : Fin 256) (l : Fin 4096) :
    refN x (ix2 n l) = Ideal.fptosi 32 (min 1 (max 0 (x (ix2 n l))) * ((4 : ℝ) : EReal)) := by
  pointwise [refN]
  rw [← four_def, ← one_def, ← show Ideal.ofBits .f32 0x00000000#32 = 0 by simp [Ideal.ofBits, Ideal.ieee]]
  rfl

/-- The reference's result at an element: the mask and the comparison. -/
theorem ref_at (x : FVec Ideal S256x4096 .f32) (n : Fin 256) (t : Fin 32) (l : Fin 4096) :
    refOf x (ix3 n t l) = FloatOps.uitofp (F := Ideal) .f32 (IntOp.andi (IntOp.cmpi .slt (BitVec.ofNat 32 (t.val % 8)) 3#32)
      (BitVec.ofBool (decide ((((t.val / 8 : ℕ) + 1 : ℝ) : EReal) ≤ x (ix2 n l) * ((4 : ℝ) : EReal))))) := by
  pointwise [refOf]
  rw [refR_at, refQ_at, refN_at, burst _ (by have := t.isLt; omega)]

/-- One row's payload at an element, whatever the thresholds and the mask. -/
theorem pay_at (v27 : FVec Ideal Cert.KernelIdeal.S32x4096 .f32) (v45 : IVec Cert.KernelIdeal.S32x4096 1)
    (r : Vec Ideal Cert.KernelIdeal.S1x4096 .f32) (t : Fin 32) (l : Fin 4096) :
    Cert.KernelIdeal.Gen.k0_pay162 v27 v45 r (ix4 0 0 t l) = FloatOps.uitofp (F := Ideal) .f32 (IntOp.andi (v45 (ix2 t l))
      (BitVec.ofBool (decide (v27 (ix2 t l) ≤ r (ix2 0 l) * ((4 : ℝ) : EReal))))) := by
  rw [← bit_float, ← four_def]
  pointwise [Cert.KernelIdeal.Gen.k0_pay162]

/-- Row `n` of the input at a column. -/
theorem row_at (c : Dev Cert.KernelIdeal.nD) (x : FVec Ideal S256x4096 .f32) (n : Fin 256) (l : Fin 4096) :
    KernelIdeal.rowOf (F := Ideal) c x n (ix2 0 l) = x (ix2 n l) := by
  have e : (KernelIdeal.rowR n).emb (ix2 0 l) = ix2 n l := by
    funext d; apply Fin.ext
    fin_cases d
    · show n.val + 1 * 0 = n.val; omega
    · show 0 + 1 * l.val = l.val; omega
  exact congrArg x e

/-- The kernel's result is the reference's. -/
theorem out_eq (c : Dev Cert.KernelIdeal.nD) (x : FVec Ideal S256x4096 .f32) :
    KernelIdeal.outG (F := Ideal) c x = refOf x := by
  refine funext fun i : S256x32x4096.Idx => ?_
  obtain ⟨n, t, l, rfl⟩ : ∃ (n : Fin 256) (t : Fin 32) (l : Fin 4096), i = ix3 n t l := ⟨i 0, i 1, i 2, ValueIdx.eq_ix3 i⟩
  refine Eq.trans (b := Cert.KernelIdeal.Gen.k0_pay162 (F := Ideal) Cert.KernelIdeal.Gen.k0_pay81
    (Cert.KernelIdeal.Gen.k0_pay83 Cert.KernelIdeal.Gen.k0_pay82 3#32) (KernelIdeal.rowOf c x n) (ix4 0 0 t l)) rfl ?_
  rw [pay_at, ref_at, within_at, thr_at, row_at]

end Cert.Proof.Value

end
-- ==== Proof.lean ====
/-
  The certificate's claim: the kernel's two frames, the reference's frame, and their equality at the ideal instance.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ring.Launch
public import proofs.«01_k».proof.Proof.Value

@[expose] public section

noncomputable section

namespace Cert.Proof

open Idealize.ShloMosaic Idealize.ShloMosaic.TcCoe Idealize.SL.Sem

/-- The kernel at the ideal instance: it terminates without fault, its argument unchanged, every semaphore at zero. -/
theorem frame_KernelIdeal : @Cert.quiescent_KernelIdeal Cert.KernelIdeal.Gen.facts := fun m ρ _ =>
  (θ_run _ _ _).mono (fun _ h => ⟨fun c => (h.1 c).2, h.2⟩) (KernelIdeal.run_main (F := Ideal) m ρ)

/-- The kernel as printed, whose text is the same: the same run at the machine's floats. -/
theorem frame_Kernel : @Cert.quiescent_Kernel Cert.Kernel.Gen.facts := fun m ρ _ =>
  (θ_run _ _ _).mono (fun _ h => ⟨fun c => (h.1 c).2, h.2⟩) (KernelIdeal.run_main (F := Bits) m ρ)

/-- The reference at the ideal instance: it terminates without fault, its argument unchanged; it has no semaphore. -/
theorem frame_ReferenceIdeal : @Cert.quiescent_ReferenceIdeal Cert.ReferenceIdeal.Gen.facts := fun m ρ _ =>
  (θ_run _ _ _).mono (fun r h => ⟨fun c => (h c).2, sem_eq_zero_of_no_sems (by decide) r.2⟩)
    (Cert.ReferenceIdeal.Value.run (F := Ideal) m ρ)

/-- The kernel and the reference at the ideal instance, from equal arguments, end with equal results. -/
theorem equal : @Cert.algebraic_KernelIdeal_ReferenceIdeal Cert.KernelIdeal.Gen.facts Cert.ReferenceIdeal.Gen.facts :=
  fun m ρ m' ρ' _ hm => ⟨fun c => KernelIdeal.outOf c m,
    (θ_run _ _ _).mono (fun _ h => h.1) (KernelIdeal.run_main (F := Ideal) m ρ),
    (θ_run _ _ _).mono (fun _ h c => ⟨(h c).1.trans ((congrArg Value.refOf (hm c)).trans (Value.out_eq c (KernelIdeal.XAof c m)).symm), (h c).2⟩)
      (Cert.ReferenceIdeal.Value.run (F := Ideal) m' ρ')⟩

/-- The five claims together. -/
theorem claim : Cert.Claim := ⟨Cert.Kernel.Gen.facts, Cert.KernelIdeal.Gen.facts, Cert.ReferenceIdeal.Gen.facts,
  frame_Kernel, frame_KernelIdeal, frame_ReferenceIdeal, trivial, equal⟩

end Cert.Proof

end
